-- ==== Defs.lean ====
def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1))).2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))).2 = (fun _ => 1#1)

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_GmlpKernel (m : (ℓ : Loc Cert.GmlpKernel.nD Cert.GmlpKernel.τ Cert.GmlpKernel.sig) → Buf (Elt Bits) ℓ) : Prop :=
  True

def Pre_GmlpKernelIdeal (m : (ℓ : Loc Cert.GmlpKernelIdeal.nD Cert.GmlpKernelIdeal.τ Cert.GmlpKernelIdeal.sig) → Buf (Elt Ideal) ℓ) : Prop :=
  True

def Pre_GmlpReferenceIdeal (m : (ℓ : Loc Cert.GmlpReferenceIdeal.nD Cert.GmlpReferenceIdeal.τ Cert.GmlpReferenceIdeal.sig) → Buf (Elt Ideal) ℓ) : Prop :=
  True

def Pre_SampleInprojKernel (m : (ℓ : Loc Cert.SampleInprojKernel.nD Cert.SampleInprojKernel.τ Cert.SampleInprojKernel.sig) → Buf (Elt Bits) ℓ) : Prop :=
  True

def Pre_SampleInprojKernelIdeal (m : (ℓ : Loc Cert.SampleInprojKernelIdeal.nD Cert.SampleInprojKernelIdeal.τ Cert.SampleInprojKernelIdeal.sig) → Buf (Elt Ideal) ℓ) : Prop :=
  True

def Pre_SampleInprojReferenceIdeal (m : (ℓ : Loc Cert.SampleInprojReferenceIdeal.nD Cert.SampleInprojReferenceIdeal.τ Cert.SampleInprojReferenceIdeal.sig) → Buf (Elt Ideal) ℓ) : Prop :=
  True

def Pre_SamplePleKernel (m : (ℓ : Loc Cert.SamplePleKernel.nD Cert.SamplePleKernel.τ Cert.SamplePleKernel.sig) → Buf (Elt Bits) ℓ) : Prop :=
  True

def Pre_SamplePleKernelIdeal (m : (ℓ : Loc Cert.SamplePleKernelIdeal.nD Cert.SamplePleKernelIdeal.τ Cert.SamplePleKernelIdeal.sig) → Buf (Elt Ideal) ℓ) : Prop :=
  True

def Pre_SamplePleReferenceIdeal (m : (ℓ : Loc Cert.SamplePleReferenceIdeal.nD Cert.SamplePleReferenceIdeal.τ Cert.SamplePleReferenceIdeal.sig) → Buf (Elt Ideal) ℓ) : Prop :=
  True

def Pre_SampleGmlpKernel (m : (ℓ : Loc Cert.SampleGmlpKernel.nD Cert.SampleGmlpKernel.τ Cert.SampleGmlpKernel.sig) → Buf (Elt Bits) ℓ) : Prop :=
  True

def Pre_SampleGmlpKernelIdeal (m : (ℓ : Loc Cert.SampleGmlpKernelIdeal.nD Cert.SampleGmlpKernelIdeal.τ Cert.SampleGmlpKernelIdeal.sig) → Buf (Elt Ideal) ℓ) : Prop :=
  True

def Pre_SampleGmlpReferenceIdeal (m : (ℓ : Loc Cert.SampleGmlpReferenceIdeal.nD Cert.SampleGmlpReferenceIdeal.τ Cert.SampleGmlpReferenceIdeal.sig) → Buf (Elt Ideal) ℓ) : Prop :=
  True

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4)
      ∧ r.2.mem ((c.tc : Thread Cert.PleKernel.nD Cert.PleKernel.τ).loc Cert.PleKernel.main_arg5) = m ((c.tc : Thread Cert.PleKernel.nD Cert.PleKernel.τ).loc Cert.PleKernel.main_arg5)
      ∧ r.2.mem ((c.tc : Thread Cert.PleKernel.nD Cert.PleKernel.τ).loc Cert.PleKernel.main_arg6) = m ((c.tc : Thread Cert.PleKernel.nD Cert.PleKernel.τ).loc Cert.PleKernel.main_arg6))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
      ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6))
      ∧ r.2.sem = fun _ => 0)

def quiescent_GmlpKernel [hGmlpKernel : Cert.GmlpKernel.Facts] : Prop :=
  ∀ (m : (ℓ : Loc Cert.GmlpKernel.nD Cert.GmlpKernel.τ Cert.GmlpKernel.sig) → Buf (Elt Bits) ℓ) (g : Dev Cert.GmlpKernel.nD → PrngReg), Pre_GmlpKernel m →
    θ_run (Cert.GmlpKernel.defs (F := Bits)) (onTc (τ := Cert.GmlpKernel.τ) (Cert.GmlpKernel.main (F := Bits))) ⟨m, fun _ => 0, g⟩ (fun r => (∀ c : Dev Cert.GmlpKernel.nD,
      r.2.mem ((c.tc : Thread Cert.GmlpKernel.nD Cert.GmlpKernel.τ).loc Cert.GmlpKernel.main_arg0) = m ((c.tc : Thread Cert.GmlpKernel.nD Cert.GmlpKernel.τ).loc Cert.GmlpKernel.main_arg0)
      ∧ r.2.mem ((c.tc : Thread Cert.GmlpKernel.nD Cert.GmlpKernel.τ).loc Cert.GmlpKernel.main_arg1) = m ((c.tc : Thread Cert.GmlpKernel.nD Cert.GmlpKernel.τ).loc Cert.GmlpKernel.main_arg1)
      ∧ r.2.mem ((c.tc : Thread Cert.GmlpKernel.nD Cert.GmlpKernel.τ).loc Cert.GmlpKernel.main_arg2) = m ((c.tc : Thread Cert.GmlpKernel.nD Cert.GmlpKernel.τ).loc Cert.GmlpKernel.main_arg2)
      ∧ r.2.mem ((c.tc : Thread Cert.GmlpKernel.nD Cert.GmlpKernel.τ).loc Cert.GmlpKernel.main_arg3) = m ((c.tc : Thread Cert.GmlpKernel.nD Cert.GmlpKernel.τ).loc Cert.GmlpKernel.main_arg3)
      ∧ r.2.mem ((c.tc : Thread Cert.GmlpKernel.nD Cert.GmlpKernel.τ).loc Cert.GmlpKernel.main_arg4) = m ((c.tc : Thread Cert.GmlpKernel.nD Cert.GmlpKernel.τ).loc Cert.GmlpKernel.main_arg4))
      ∧ r.2.sem = fun _ => 0)

def quiescent_GmlpKernelIdeal [hGmlpKernelIdeal : Cert.GmlpKernelIdeal.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4))
      ∧ r.2.sem = fun _ => 0)

def quiescent_SampleInprojKernel [hSampleInprojKernel : Cert.SampleInprojKernel.Facts] : Prop :=
  ∀ (m : (ℓ : Loc Cert.SampleInprojKernel.nD Cert.SampleInprojKernel.τ Cert.SampleInprojKernel.sig) → Buf (Elt Bits) ℓ) (g : Dev Cert.SampleInprojKernel.nD → PrngReg), Pre_SampleInprojKernel m →
    θ_run (Cert.SampleInprojKernel.defs (F := Bits)) (onTc (τ := Cert.SampleInprojKernel.τ) (Cert.SampleInprojKernel.main (F := Bits))) ⟨m, fun _ => 0, g⟩ (fun r => (∀ c : Dev Cert.SampleInprojKernel.nD,
      r.2.mem ((c.tc : Thread Cert.SampleInprojKernel.nD Cert.SampleInprojKernel.τ).loc Cert.SampleInprojKernel.main_arg0) = m ((c.tc : Thread Cert.SampleInprojKernel.nD Cert.SampleInprojKernel.τ).loc Cert.SampleInprojKernel.main_arg0)
      ∧ r.2.mem ((c.tc : Thread Cert.SampleInprojKernel.nD Cert.SampleInprojKernel.τ).loc Cert.SampleInprojKernel.main_arg1) = m ((c.tc : Thread Cert.SampleInprojKernel.nD Cert.SampleInprojKernel.τ).loc Cert.SampleInprojKernel.main_arg1)
      ∧ r.2.mem ((c.tc : Thread Cert.SampleInprojKernel.nD Cert.SampleInprojKernel.τ).loc Cert.SampleInprojKernel.main_arg2) = m ((c.tc : Thread Cert.SampleInprojKernel.nD Cert.SampleInprojKernel.τ).loc Cert.SampleInprojKernel.main_arg2))
      ∧ r.2.sem = fun _ => 0)

def quiescent_SampleInprojKernelIdeal [hSampleInprojKernelIdeal : Cert.SampleInprojKernelIdeal.Facts] : Prop :=
  ∀ (m : (ℓ : Loc Cert.SampleInprojKernelIdeal.nD Cert.SampleInprojKernelIdeal.τ Cert.SampleInprojKernelIdeal.sig) → Buf (Elt Ideal) ℓ) (g : Dev Cert.SampleInprojKernelIdeal.nD → PrngReg), Pre_SampleInprojKernelIdeal m →
    θ_run (Cert.SampleInprojKernelIdeal.defs (F := Ideal)) (onTc (τ := Cert.SampleInprojKernelIdeal.τ) (Cert.SampleInprojKernelIdeal.main (F := Ideal))) ⟨m, fun _ => 0, g⟩ (fun r => (∀ c : Dev Cert.SampleInprojKernelIdeal.nD,
      r.2.mem ((c.tc : Thread Cert.SampleInprojKernelIdeal.nD Cert.SampleInprojKernelIdeal.τ).loc Cert.SampleInprojKernelIdeal.main_arg0) = m ((c.tc : Thread Cert.SampleInprojKernelIdeal.nD Cert.SampleInprojKernelIdeal.τ).loc Cert.SampleInprojKernelIdeal.main_arg0)
      ∧ r.2.mem ((c.tc : Thread Cert.SampleInprojKernelIdeal.nD Cert.SampleInprojKernelIdeal.τ).loc Cert.SampleInprojKernelIdeal.main_arg1) = m ((c.tc : Thread Cert.SampleInprojKernelIdeal.nD Cert.SampleInprojKernelIdeal.τ).loc Cert.SampleInprojKernelIdeal.main_arg1)
      ∧ r.2.mem ((c.tc : Thread Cert.SampleInprojKernelIdeal.nD Cert.SampleInprojKernelIdeal.τ).loc Cert.SampleInprojKernelIdeal.main_arg2) = m ((c.tc : Thread Cert.SampleInprojKernelIdeal.nD Cert.SampleInprojKernelIdeal.τ).loc Cert.SampleInprojKernelIdeal.main_arg2))
      ∧ r.2.sem = fun _ => 0)

def quiescent_SampleInprojReferenceIdeal [hSampleInprojReferenceIdeal : Cert.SampleInprojReferenceIdeal.Facts] : Prop :=
  ∀ (m : (ℓ : Loc Cert.SampleInprojReferenceIdeal.nD Cert.SampleInprojReferenceIdeal.τ Cert.SampleInprojReferenceIdeal.sig) → Buf (Elt Ideal) ℓ) (g : Dev Cert.SampleInprojReferenceIdeal.nD → PrngReg), Pre_SampleInprojReferenceIdeal m →
    θ_run (Cert.SampleInprojReferenceIdeal.defs (F := Ideal)) (onTc (τ := Cert.SampleInprojReferenceIdeal.τ) (Cert.SampleInprojReferenceIdeal.main (F := Ideal))) ⟨m, fun _ => 0, g⟩ (fun r => (∀ c : Dev Cert.SampleInprojReferenceIdeal.nD,
      r.2.mem ((c.tc : Thread Cert.SampleInprojReferenceIdeal.nD Cert.SampleInprojReferenceIdeal.τ).loc Cert.SampleInprojReferenceIdeal.main_arg0) = m ((c.tc : Thread Cert.SampleInprojReferenceIdeal.nD Cert.SampleInprojReferenceIdeal.τ).loc Cert.SampleInprojReferenceIdeal.main_arg0)
      ∧ r.2.mem ((c.tc : Thread Cert.SampleInprojReferenceIdeal.nD Cert.SampleInprojReferenceIdeal.τ).loc Cert.SampleInprojReferenceIdeal.main_arg1) = m ((c.tc : Thread Cert.SampleInprojReferenceIdeal.nD Cert.SampleInprojReferenceIdeal.τ).loc Cert.SampleInprojReferenceIdeal.main_arg1)
      ∧ r.2.mem ((c.tc : Thread Cert.SampleInprojReferenceIdeal.nD Cert.SampleInprojReferenceIdeal.τ).loc Cert.SampleInprojReferenceIdeal.main_arg2) = m ((c.tc : Thread Cert.SampleInprojReferenceIdeal.nD Cert.SampleInprojReferenceIdeal.τ).loc Cert.SampleInprojReferenceIdeal.main_arg2))
      ∧ r.2.sem = fun _ => 0)

def quiescent_SamplePleKernel [hSamplePleKernel : Cert.SamplePleKernel.Facts] : Prop :=
  ∀ (m : (ℓ : Loc Cert.SamplePleKernel.nD Cert.SamplePleKernel.τ Cert.SamplePleKernel.sig) → Buf (Elt Bits) ℓ) (g : Dev Cert.SamplePleKernel.nD → PrngReg), Pre_SamplePleKernel m →
    θ_run (Cert.SamplePleKernel.defs (F := Bits)) (onTc (τ := Cert.SamplePleKernel.τ) (Cert.SamplePleKernel.main (F := Bits))) ⟨m, fun _ => 0, g⟩ (fun r => (∀ c : Dev Cert.SamplePleKernel.nD,
      r.2.mem ((c.tc : Thread Cert.SamplePleKernel.nD Cert.SamplePleKernel.τ).loc Cert.SamplePleKernel.main_arg0) = m ((c.tc : Thread Cert.SamplePleKernel.nD Cert.SamplePleKernel.τ).loc Cert.SamplePleKernel.main_arg0)
      ∧ r.2.mem ((c.tc : Thread Cert.SamplePleKernel.nD Cert.SamplePleKernel.τ).loc Cert.SamplePleKernel.main_arg1) = m ((c.tc : Thread Cert.SamplePleKernel.nD Cert.SamplePleKernel.τ).loc Cert.SamplePleKernel.main_arg1)
      ∧ r.2.mem ((c.tc : Thread Cert.SamplePleKernel.nD Cert.SamplePleKernel.τ).loc Cert.SamplePleKernel.main_arg2) = m ((c.tc : Thread Cert.SamplePleKernel.nD Cert.SamplePleKernel.τ).loc Cert.SamplePleKernel.main_arg2)
      ∧ r.2.mem ((c.tc : Thread Cert.SamplePleKernel.nD Cert.SamplePleKernel.τ).loc Cert.SamplePleKernel.main_arg3) = m ((c.tc : Thread Cert.SamplePleKernel.nD Cert.SamplePleKernel.τ).loc Cert.SamplePleKernel.main_arg3)
      ∧ r.2.mem ((c.tc : Thread Cert.SamplePleKernel.nD Cert.SamplePleKernel.τ).loc Cert.SamplePleKernel.main_arg4) = m ((c.tc : Thread Cert.SamplePleKernel.nD Cert.SamplePleKernel.τ).loc Cert.SamplePleKernel.main_arg4)
      ∧ r.2.mem ((c.tc : Thread Cert.SamplePleKernel.nD Cert.SamplePleKernel.τ).loc Cert.SamplePleKernel.main_arg5) = m ((c.tc : Thread Cert.SamplePleKernel.nD Cert.SamplePleKernel.τ).loc Cert.SamplePleKernel.main_arg5)
      ∧ r.2.mem ((c.tc : Thread Cert.SamplePleKernel.nD Cert.SamplePleKernel.τ).loc Cert.SamplePleKernel.main_arg6) = m ((c.tc : Thread Cert.SamplePleKernel.nD Cert.SamplePleKernel.τ).loc Cert.SamplePleKernel.main_arg6))
      ∧ r.2.sem = fun _ => 0)

def quiescent_SamplePleKernelIdeal [hSamplePleKernelIdeal : Cert.SamplePleKernelIdeal.Facts] : Prop :=
  ∀ (m : (ℓ : Loc Cert.SamplePleKernelIdeal.nD Cert.SamplePleKernelIdeal.τ Cert.SamplePleKernelIdeal.sig) → Buf (Elt Ideal) ℓ) (g : Dev Cert.SamplePleKernelIdeal.nD → PrngReg), Pre_SamplePleKernelIdeal m →
    θ_run (Cert.SamplePleKernelIdeal.defs (F := Ideal)) (onTc (τ := Cert.SamplePleKernelIdeal.τ) (Cert.SamplePleKernelIdeal.main (F := Ideal))) ⟨m, fun _ => 0, g⟩ (fun r => (∀ c : Dev Cert.SamplePleKernelIdeal.nD,
      r.2.mem ((c.tc : Thread Cert.SamplePleKernelIdeal.nD Cert.SamplePleKernelIdeal.τ).loc Cert.SamplePleKernelIdeal.main_arg0) = m ((c.tc : Thread Cert.SamplePleKernelIdeal.nD Cert.SamplePleKernelIdeal.τ).loc Cert.SamplePleKernelIdeal.main_arg0)
      ∧ r.2.mem ((c.tc : Thread Cert.SamplePleKernelIdeal.nD Cert.SamplePleKernelIdeal.τ).loc Cert.SamplePleKernelIdeal.main_arg1) = m ((c.tc : Thread Cert.SamplePleKernelIdeal.nD Cert.SamplePleKernelIdeal.τ).loc Cert.SamplePleKernelIdeal.main_arg1)
      ∧ r.2.mem ((c.tc : Thread Cert.SamplePleKernelIdeal.nD Cert.SamplePleKernelIdeal.τ).loc Cert.SamplePleKernelIdeal.main_arg2) = m ((c.tc : Thread Cert.SamplePleKernelIdeal.nD Cert.SamplePleKernelIdeal.τ).loc Cert.SamplePleKernelIdeal.main_arg2)
      ∧ r.2.mem ((c.tc : Thread Cert.SamplePleKernelIdeal.nD Cert.SamplePleKernelIdeal.τ).loc Cert.SamplePleKernelIdeal.main_arg3) = m ((c.tc : Thread Cert.SamplePleKernelIdeal.nD Cert.SamplePleKernelIdeal.τ).loc Cert.SamplePleKernelIdeal.main_arg3)
      ∧ r.2.mem ((c.tc : Thread Cert.SamplePleKernelIdeal.nD Cert.SamplePleKernelIdeal.τ).loc Cert.SamplePleKernelIdeal.main_arg4) = m ((c.tc : Thread Cert.SamplePleKernelIdeal.nD Cert.SamplePleKernelIdeal.τ).loc Cert.SamplePleKernelIdeal.main_arg4)
      ∧ r.2.mem ((c.tc : Thread Cert.SamplePleKernelIdeal.nD Cert.SamplePleKernelIdeal.τ).loc Cert.SamplePleKernelIdeal.main_arg5) = m ((c.tc : Thread Cert.SamplePleKernelIdeal.nD Cert.SamplePleKernelIdeal.τ).loc Cert.SamplePleKernelIdeal.main_arg5)
      ∧ r.2.mem ((c.tc : Thread Cert.SamplePleKernelIdeal.nD Cert.SamplePleKernelIdeal.τ).loc Cert.SamplePleKernelIdeal.main_arg6) = m ((c.tc : Thread Cert.SamplePleKernelIdeal.nD Cert.SamplePleKernelIdeal.τ).loc Cert.SamplePleKernelIdeal.main_arg6))
      ∧ r.2.sem = fun _ => 0)

def quiescent_SamplePleReferenceIdeal [hSamplePleReferenceIdeal : Cert.SamplePleReferenceIdeal.Facts] : Prop :=
  ∀ (m : (ℓ : Loc Cert.SamplePleReferenceIdeal.nD Cert.SamplePleReferenceIdeal.τ Cert.SamplePleReferenceIdeal.sig) → Buf (Elt Ideal) ℓ) (g : Dev Cert.SamplePleReferenceIdeal.nD → PrngReg), Pre_SamplePleReferenceIdeal m →
    θ_run (Cert.SamplePleReferenceIdeal.defs (F := Ideal)) (onTc (τ := Cert.SamplePleReferenceIdeal.τ) (Cert.SamplePleReferenceIdeal.main (F := Ideal))) ⟨m, fun _ => 0, g⟩ (fun r => (∀ c : Dev Cert.SamplePleReferenceIdeal.nD,
      r.2.mem ((c.tc : Thread Cert.SamplePleReferenceIdeal.nD Cert.SamplePleReferenceIdeal.τ).loc Cert.SamplePleReferenceIdeal.main_arg0) = m ((c.tc : Thread Cert.SamplePleReferenceIdeal.nD Cert.SamplePleReferenceIdeal.τ).loc Cert.SamplePleReferenceIdeal.main_arg0)
      ∧ r.2.mem ((c.tc : Thread Cert.SamplePleReferenceIdeal.nD Cert.SamplePleReferenceIdeal.τ).loc Cert.SamplePleReferenceIdeal.main_arg1) = m ((c.tc : Thread Cert.SamplePleReferenceIdeal.nD Cert.SamplePleReferenceIdeal.τ).loc Cert.SamplePleReferenceIdeal.main_arg1)
      ∧ r.2.mem ((c.tc : Thread Cert.SamplePleReferenceIdeal.nD Cert.SamplePleReferenceIdeal.τ).loc Cert.SamplePleReferenceIdeal.main_arg2) = m ((c.tc : Thread Cert.SamplePleReferenceIdeal.nD Cert.SamplePleReferenceIdeal.τ).loc Cert.SamplePleReferenceIdeal.main_arg2)
      ∧ r.2.mem ((c.tc : Thread Cert.SamplePleReferenceIdeal.nD Cert.SamplePleReferenceIdeal.τ).loc Cert.SamplePleReferenceIdeal.main_arg3) = m ((c.tc : Thread Cert.SamplePleReferenceIdeal.nD Cert.SamplePleReferenceIdeal.τ).loc Cert.SamplePleReferenceIdeal.main_arg3)
      ∧ r.2.mem ((c.tc : Thread Cert.SamplePleReferenceIdeal.nD Cert.SamplePleReferenceIdeal.τ).loc Cert.SamplePleReferenceIdeal.main_arg4) = m ((c.tc : Thread Cert.SamplePleReferenceIdeal.nD Cert.SamplePleReferenceIdeal.τ).loc Cert.SamplePleReferenceIdeal.main_arg4)
      ∧ r.2.mem ((c.tc : Thread Cert.SamplePleReferenceIdeal.nD Cert.SamplePleReferenceIdeal.τ).loc Cert.SamplePleReferenceIdeal.main_arg5) = m ((c.tc : Thread Cert.SamplePleReferenceIdeal.nD Cert.SamplePleReferenceIdeal.τ).loc Cert.SamplePleReferenceIdeal.main_arg5)
      ∧ r.2.mem ((c.tc : Thread Cert.SamplePleReferenceIdeal.nD Cert.SamplePleReferenceIdeal.τ).loc Cert.SamplePleReferenceIdeal.main_arg6) = m ((c.tc : Thread Cert.SamplePleReferenceIdeal.nD Cert.SamplePleReferenceIdeal.τ).loc Cert.SamplePleReferenceIdeal.main_arg6))
      ∧ r.2.sem = fun _ => 0)

def quiescent_SampleGmlpKernel [hSampleGmlpKernel : Cert.SampleGmlpKernel.Facts] : Prop :=
  ∀ (m : (ℓ : Loc Cert.SampleGmlpKernel.nD Cert.SampleGmlpKernel.τ Cert.SampleGmlpKernel.sig) → Buf (Elt Bits) ℓ) (g : Dev Cert.SampleGmlpKernel.nD → PrngReg), Pre_SampleGmlpKernel m →
    θ_run (Cert.SampleGmlpKernel.defs (F := Bits)) (onTc (τ := Cert.SampleGmlpKernel.τ) (Cert.SampleGmlpKernel.main (F := Bits))) ⟨m, fun _ => 0, g⟩ (fun r => (∀ c : Dev Cert.SampleGmlpKernel.nD,
      r.2.mem ((c.tc : Thread Cert.SampleGmlpKernel.nD Cert.SampleGmlpKernel.τ).loc Cert.SampleGmlpKernel.main_arg0) = m ((c.tc : Thread Cert.SampleGmlpKernel.nD Cert.SampleGmlpKernel.τ).loc Cert.SampleGmlpKernel.main_arg0)
      ∧ r.2.mem ((c.tc : Thread Cert.SampleGmlpKernel.nD Cert.SampleGmlpKernel.τ).loc Cert.SampleGmlpKernel.main_arg1) = m ((c.tc : Thread Cert.SampleGmlpKernel.nD Cert.SampleGmlpKernel.τ).loc Cert.SampleGmlpKernel.main_arg1)
      ∧ r.2.mem ((c.tc : Thread Cert.SampleGmlpKernel.nD Cert.SampleGmlpKernel.τ).loc Cert.SampleGmlpKernel.main_arg2) = m ((c.tc : Thread Cert.SampleGmlpKernel.nD Cert.SampleGmlpKernel.τ).loc Cert.SampleGmlpKernel.main_arg2)
      ∧ r.2.mem ((c.tc : Thread Cert.SampleGmlpKernel.nD Cert.SampleGmlpKernel.τ).loc Cert.SampleGmlpKernel.main_arg3) = m ((c.tc : Thread Cert.SampleGmlpKernel.nD Cert.SampleGmlpKernel.τ).loc Cert.SampleGmlpKernel.main_arg3)
      ∧ r.2.mem ((c.tc : Thread Cert.SampleGmlpKernel.nD Cert.SampleGmlpKernel.τ).loc Cert.SampleGmlpKernel.main_arg4) = m ((c.tc : Thread Cert.SampleGmlpKernel.nD Cert.SampleGmlpKernel.τ).loc Cert.SampleGmlpKernel.main_arg4))
      ∧ r.2.sem = fun _ => 0)

def quiescent_SampleGmlpKernelIdeal [hSampleGmlpKernelIdeal : Cert.SampleGmlpKernelIdeal.Facts] : Prop :=
  ∀ (m : (ℓ : Loc Cert.SampleGmlpKernelIdeal.nD Cert.SampleGmlpKernelIdeal.τ Cert.SampleGmlpKernelIdeal.sig) → Buf (Elt Ideal) ℓ) (g : Dev Cert.SampleGmlpKernelIdeal.nD → PrngReg), Pre_SampleGmlpKernelIdeal m →
    θ_run (Cert.SampleGmlpKernelIdeal.defs (F := Ideal)) (onTc (τ := Cert.SampleGmlpKernelIdeal.τ) (Cert.SampleGmlpKernelIdeal.main (F := Ideal))) ⟨m, fun _ => 0, g⟩ (fun r => (∀ c : Dev Cert.SampleGmlpKernelIdeal.nD,
      r.2.mem ((c.tc : Thread Cert.SampleGmlpKernelIdeal.nD Cert.SampleGmlpKernelIdeal.τ).loc Cert.SampleGmlpKernelIdeal.main_arg0) = m ((c.tc : Thread Cert.SampleGmlpKernelIdeal.nD Cert.SampleGmlpKernelIdeal.τ).loc Cert.SampleGmlpKernelIdeal.main_arg0)
      ∧ r.2.mem ((c.tc : Thread Cert.SampleGmlpKernelIdeal.nD Cert.SampleGmlpKernelIdeal.τ).loc Cert.SampleGmlpKernelIdeal.main_arg1) = m ((c.tc : Thread Cert.SampleGmlpKernelIdeal.nD Cert.SampleGmlpKernelIdeal.τ).loc Cert.SampleGmlpKernelIdeal.main_arg1)
      ∧ r.2.mem ((c.tc : Thread Cert.SampleGmlpKernelIdeal.nD Cert.SampleGmlpKernelIdeal.τ).loc Cert.SampleGmlpKernelIdeal.main_arg2) = m ((c.tc : Thread Cert.SampleGmlpKernelIdeal.nD Cert.SampleGmlpKernelIdeal.τ).loc Cert.SampleGmlpKernelIdeal.main_arg2)
      ∧ r.2.mem ((c.tc : Thread Cert.SampleGmlpKernelIdeal.nD Cert.SampleGmlpKernelIdeal.τ).loc Cert.SampleGmlpKernelIdeal.main_arg3) = m ((c.tc : Thread Cert.SampleGmlpKernelIdeal.nD Cert.SampleGmlpKernelIdeal.τ).loc Cert.SampleGmlpKernelIdeal.main_arg3)
      ∧ r.2.mem ((c.tc : Thread Cert.SampleGmlpKernelIdeal.nD Cert.SampleGmlpKernelIdeal.τ).loc Cert.SampleGmlpKernelIdeal.main_arg4) = m ((c.tc : Thread Cert.SampleGmlpKernelIdeal.nD Cert.SampleGmlpKernelIdeal.τ).loc Cert.SampleGmlpKernelIdeal.main_arg4))
      ∧ r.2.sem = fun _ => 0)

def quiescent_SampleGmlpReferenceIdeal [hSampleGmlpReferenceIdeal : Cert.SampleGmlpReferenceIdeal.Facts] : Prop :=
  ∀ (m : (ℓ : Loc Cert.SampleGmlpReferenceIdeal.nD Cert.SampleGmlpReferenceIdeal.τ Cert.SampleGmlpReferenceIdeal.sig) → Buf (Elt Ideal) ℓ) (g : Dev Cert.SampleGmlpReferenceIdeal.nD → PrngReg), Pre_SampleGmlpReferenceIdeal m →
    θ_run (Cert.SampleGmlpReferenceIdeal.defs (F := Ideal)) (onTc (τ := Cert.SampleGmlpReferenceIdeal.τ) (Cert.SampleGmlpReferenceIdeal.main (F := Ideal))) ⟨m, fun _ => 0, g⟩ (fun r => (∀ c : Dev Cert.SampleGmlpReferenceIdeal.nD,
      r.2.mem ((c.tc : Thread Cert.SampleGmlpReferenceIdeal.nD Cert.SampleGmlpReferenceIdeal.τ).loc Cert.SampleGmlpReferenceIdeal.main_arg0) = m ((c.tc : Thread Cert.SampleGmlpReferenceIdeal.nD Cert.SampleGmlpReferenceIdeal.τ).loc Cert.SampleGmlpReferenceIdeal.main_arg0)
      ∧ r.2.mem ((c.tc : Thread Cert.SampleGmlpReferenceIdeal.nD Cert.SampleGmlpReferenceIdeal.τ).loc Cert.SampleGmlpReferenceIdeal.main_arg1) = m ((c.tc : Thread Cert.SampleGmlpReferenceIdeal.nD Cert.SampleGmlpReferenceIdeal.τ).loc Cert.SampleGmlpReferenceIdeal.main_arg1)
      ∧ r.2.mem ((c.tc : Thread Cert.SampleGmlpReferenceIdeal.nD Cert.SampleGmlpReferenceIdeal.τ).loc Cert.SampleGmlpReferenceIdeal.main_arg2) = m ((c.tc : Thread Cert.SampleGmlpReferenceIdeal.nD Cert.SampleGmlpReferenceIdeal.τ).loc Cert.SampleGmlpReferenceIdeal.main_arg2)
      ∧ r.2.mem ((c.tc : Thread Cert.SampleGmlpReferenceIdeal.nD Cert.SampleGmlpReferenceIdeal.τ).loc Cert.SampleGmlpReferenceIdeal.main_arg3) = m ((c.tc : Thread Cert.SampleGmlpReferenceIdeal.nD Cert.SampleGmlpReferenceIdeal.τ).loc Cert.SampleGmlpReferenceIdeal.main_arg3)
      ∧ r.2.mem ((c.tc : Thread Cert.SampleGmlpReferenceIdeal.nD Cert.SampleGmlpReferenceIdeal.τ).loc Cert.SampleGmlpReferenceIdeal.main_arg4) = m ((c.tc : Thread Cert.SampleGmlpReferenceIdeal.nD Cert.SampleGmlpReferenceIdeal.τ).loc Cert.SampleGmlpReferenceIdeal.main_arg4))
      ∧ r.2.sem = fun _ => 0)

def preserves_AttnKernel_AttnKernelIdeal : Prop :=
  IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)) →
    ∃ (v0 : (c : Dev Cert.AttnKernelIdeal.nD) → Buf (Elt Ideal) ((c.tc : Thread Cert.AttnKernelIdeal.nD Cert.AttnKernelIdeal.τ).loc Cert.AttnKernelIdeal.main_v0)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v0) = v0 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v64) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)) →
    ∃ (v0 : (c : Dev Cert.InprojKernelIdeal.nD) → Buf (Elt Ideal) ((c.tc : Thread Cert.InprojKernelIdeal.nD Cert.InprojKernelIdeal.τ).loc Cert.InprojKernelIdeal.main_v2)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v2) = v0 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v36) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v2)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v2) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v11) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)
      ∧ m' ((c.tc : Thread Cert.PleReferenceIdeal.nD Cert.PleReferenceIdeal.τ).loc Cert.PleReferenceIdeal.main_arg5) = m ((c.tc : Thread Cert.PleKernelIdeal.nD Cert.PleKernelIdeal.τ).loc Cert.PleKernelIdeal.main_arg5)
      ∧ m' ((c.tc : Thread Cert.PleReferenceIdeal.nD Cert.PleReferenceIdeal.τ).loc Cert.PleReferenceIdeal.main_arg6) = m ((c.tc : Thread Cert.PleKernelIdeal.nD Cert.PleKernelIdeal.τ).loc Cert.PleKernelIdeal.main_arg6)) →
    ∃ (v0 : (c : Dev Cert.PleKernelIdeal.nD) → Buf (Elt Ideal) ((c.tc : Thread Cert.PleKernelIdeal.nD Cert.PleKernelIdeal.τ).loc Cert.PleKernelIdeal.main_v4)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v4) = v0 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
          ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
          ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v36) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6))

def preserves_GmlpKernel_GmlpKernelIdeal : Prop :=
  True

def algebraic_GmlpKernelIdeal_GmlpReferenceIdeal [hGmlpKernelIdeal : Cert.GmlpKernelIdeal.Facts] [hGmlpReferenceIdeal : Cert.GmlpReferenceIdeal.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpKernelIdeal m →
    (∀ c : Dev Cert.GmlpKernelIdeal.nD,
      m' ((c.tc : Thread Cert.GmlpReferenceIdeal.nD Cert.GmlpReferenceIdeal.τ).loc Cert.GmlpReferenceIdeal.main_arg0) = m ((c.tc : Thread Cert.GmlpKernelIdeal.nD Cert.GmlpKernelIdeal.τ).loc Cert.GmlpKernelIdeal.main_arg0)
      ∧ m' ((c.tc : Thread Cert.GmlpReferenceIdeal.nD Cert.GmlpReferenceIdeal.τ).loc Cert.GmlpReferenceIdeal.main_arg1) = m ((c.tc : Thread Cert.GmlpKernelIdeal.nD Cert.GmlpKernelIdeal.τ).loc Cert.GmlpKernelIdeal.main_arg1)
      ∧ m' ((c.tc : Thread Cert.GmlpReferenceIdeal.nD Cert.GmlpReferenceIdeal.τ).loc Cert.GmlpReferenceIdeal.main_arg2) = m ((c.tc : Thread Cert.GmlpKernelIdeal.nD Cert.GmlpKernelIdeal.τ).loc Cert.GmlpKernelIdeal.main_arg2)
      ∧ m' ((c.tc : Thread Cert.GmlpReferenceIdeal.nD Cert.GmlpReferenceIdeal.τ).loc Cert.GmlpReferenceIdeal.main_arg3) = m ((c.tc : Thread Cert.GmlpKernelIdeal.nD Cert.GmlpKernelIdeal.τ).loc Cert.GmlpKernelIdeal.main_arg3)
      ∧ m' ((c.tc : Thread Cert.GmlpReferenceIdeal.nD Cert.GmlpReferenceIdeal.τ).loc Cert.GmlpReferenceIdeal.main_arg4) = m ((c.tc : Thread Cert.GmlpKernelIdeal.nD Cert.GmlpKernelIdeal.τ).loc Cert.GmlpKernelIdeal.main_arg4)) →
    ∃ (v0 : (c : Dev Cert.GmlpKernelIdeal.nD) → Buf (Elt Ideal) ((c.tc : Thread Cert.GmlpKernelIdeal.nD Cert.GmlpKernelIdeal.τ).loc Cert.GmlpKernelIdeal.main_v16)),
      θ_run (Cert.GmlpKernelIdeal.defs (F := Ideal)) (onTc (τ := Cert.GmlpKernelIdeal.τ) (Cert.GmlpKernelIdeal.main (F := Ideal))) ⟨m, fun _ => 0, g⟩ (fun r => ∀ c : Dev Cert.GmlpKernelIdeal.nD,
          r.2.mem ((c.tc : Thread Cert.GmlpKernelIdeal.nD Cert.GmlpKernelIdeal.τ).loc Cert.GmlpKernelIdeal.main_v16) = v0 c
          ∧ r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
          ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
          ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
          ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
          ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v42) = v0 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4))

def preserves_SampleInprojKernel_SampleInprojKernelIdeal : Prop :=
  True

def algebraic_SampleInprojKernelIdeal_SampleInprojReferenceIdeal [hSampleInprojKernelIdeal : Cert.SampleInprojKernelIdeal.Facts] [hSampleInprojReferenceIdeal : Cert.SampleInprojReferenceIdeal.Facts] : Prop :=
  ∀ (m : (ℓ : Loc Cert.SampleInprojKernelIdeal.nD Cert.SampleInprojKernelIdeal.τ Cert.SampleInprojKernelIdeal.sig) → Buf (Elt Ideal) ℓ) (g : Dev Cert.SampleInprojKernelIdeal.nD → PrngReg)
    (m' : (ℓ : Loc Cert.SampleInprojReferenceIdeal.nD Cert.SampleInprojReferenceIdeal.τ Cert.SampleInprojReferenceIdeal.sig) → Buf (Elt Ideal) ℓ) (g' : Dev Cert.SampleInprojReferenceIdeal.nD → PrngReg), Pre_SampleInprojKernelIdeal m →
    (∀ c : Dev Cert.SampleInprojKernelIdeal.nD,
      m' ((c.tc : Thread Cert.SampleInprojReferenceIdeal.nD Cert.SampleInprojReferenceIdeal.τ).loc Cert.SampleInprojReferenceIdeal.main_arg0) = m ((c.tc : Thread Cert.SampleInprojKernelIdeal.nD Cert.SampleInprojKernelIdeal.τ).loc Cert.SampleInprojKernelIdeal.main_arg0)
      ∧ m' ((c.tc : Thread Cert.SampleInprojReferenceIdeal.nD Cert.SampleInprojReferenceIdeal.τ).loc Cert.SampleInprojReferenceIdeal.main_arg1) = m ((c.tc : Thread Cert.SampleInprojKernelIdeal.nD Cert.SampleInprojKernelIdeal.τ).loc Cert.SampleInprojKernelIdeal.main_arg1)
      ∧ m' ((c.tc : Thread Cert.SampleInprojReferenceIdeal.nD Cert.SampleInprojReferenceIdeal.τ).loc Cert.SampleInprojReferenceIdeal.main_arg2) = m ((c.tc : Thread Cert.SampleInprojKernelIdeal.nD Cert.SampleInprojKernelIdeal.τ).loc Cert.SampleInprojKernelIdeal.main_arg2)) →
    ∃ (v0 : (c : Dev Cert.SampleInprojKernelIdeal.nD) → Buf (Elt Ideal) ((c.tc : Thread Cert.SampleInprojKernelIdeal.nD Cert.SampleInprojKernelIdeal.τ).loc Cert.SampleInprojKernelIdeal.main_v2)),
      θ_run (Cert.SampleInprojKernelIdeal.defs (F := Ideal)) (onTc (τ := Cert.SampleInprojKernelIdeal.τ) (Cert.SampleInprojKernelIdeal.main (F := Ideal))) ⟨m, fun _ => 0, g⟩ (fun r => ∀ c : Dev Cert.SampleInprojKernelIdeal.nD,
          r.2.mem ((c.tc : Thread Cert.SampleInprojKernelIdeal.nD Cert.SampleInprojKernelIdeal.τ).loc Cert.SampleInprojKernelIdeal.main_v2) = v0 c
          ∧ r.2.mem ((c.tc : Thread Cert.SampleInprojKernelIdeal.nD Cert.SampleInprojKernelIdeal.τ).loc Cert.SampleInprojKernelIdeal.main_arg0) = m ((c.tc : Thread Cert.SampleInprojKernelIdeal.nD Cert.SampleInprojKernelIdeal.τ).loc Cert.SampleInprojKernelIdeal.main_arg0)
          ∧ r.2.mem ((c.tc : Thread Cert.SampleInprojKernelIdeal.nD Cert.SampleInprojKernelIdeal.τ).loc Cert.SampleInprojKernelIdeal.main_arg1) = m ((c.tc : Thread Cert.SampleInprojKernelIdeal.nD Cert.SampleInprojKernelIdeal.τ).loc Cert.SampleInprojKernelIdeal.main_arg1)
          ∧ r.2.mem ((c.tc : Thread Cert.SampleInprojKernelIdeal.nD Cert.SampleInprojKernelIdeal.τ).loc Cert.SampleInprojKernelIdeal.main_arg2) = m ((c.tc : Thread Cert.SampleInprojKernelIdeal.nD Cert.SampleInprojKernelIdeal.τ).loc Cert.SampleInprojKernelIdeal.main_arg2))
      ∧ θ_run (Cert.SampleInprojReferenceIdeal.defs (F := Ideal)) (onTc (τ := Cert.SampleInprojReferenceIdeal.τ) (Cert.SampleInprojReferenceIdeal.main (F := Ideal))) ⟨m', fun _ => 0, g'⟩ (fun r => ∀ c : Dev Cert.SampleInprojReferenceIdeal.nD,
          r.2.mem ((c.tc : Thread Cert.SampleInprojReferenceIdeal.nD Cert.SampleInprojReferenceIdeal.τ).loc Cert.SampleInprojReferenceIdeal.main_v36) = v0 c
          ∧ r.2.mem ((c.tc : Thread Cert.SampleInprojReferenceIdeal.nD Cert.SampleInprojReferenceIdeal.τ).loc Cert.SampleInprojReferenceIdeal.main_arg0) = m' ((c.tc : Thread Cert.SampleInprojReferenceIdeal.nD Cert.SampleInprojReferenceIdeal.τ).loc Cert.SampleInprojReferenceIdeal.main_arg0)
          ∧ r.2.mem ((c.tc : Thread Cert.SampleInprojReferenceIdeal.nD Cert.SampleInprojReferenceIdeal.τ).loc Cert.SampleInprojReferenceIdeal.main_arg1) = m' ((c.tc : Thread Cert.SampleInprojReferenceIdeal.nD Cert.SampleInprojReferenceIdeal.τ).loc Cert.SampleInprojReferenceIdeal.main_arg1)
          ∧ r.2.mem ((c.tc : Thread Cert.SampleInprojReferenceIdeal.nD Cert.SampleInprojReferenceIdeal.τ).loc Cert.SampleInprojReferenceIdeal.main_arg2) = m' ((c.tc : Thread Cert.SampleInprojReferenceIdeal.nD Cert.SampleInprojReferenceIdeal.τ).loc Cert.SampleInprojReferenceIdeal.main_arg2))

def preserves_SamplePleKernel_SamplePleKernelIdeal : Prop :=
  True

def algebraic_SamplePleKernelIdeal_SamplePleReferenceIdeal [hSamplePleKernelIdeal : Cert.SamplePleKernelIdeal.Facts] [hSamplePleReferenceIdeal : Cert.SamplePleReferenceIdeal.Facts] : Prop :=
  ∀ (m : (ℓ : Loc Cert.SamplePleKernelIdeal.nD Cert.SamplePleKernelIdeal.τ Cert.SamplePleKernelIdeal.sig) → Buf (Elt Ideal) ℓ) (g : Dev Cert.SamplePleKernelIdeal.nD → PrngReg)
    (m' : (ℓ : Loc Cert.SamplePleReferenceIdeal.nD Cert.SamplePleReferenceIdeal.τ Cert.SamplePleReferenceIdeal.sig) → Buf (Elt Ideal) ℓ) (g' : Dev Cert.SamplePleReferenceIdeal.nD → PrngReg), Pre_SamplePleKernelIdeal m →
    (∀ c : Dev Cert.SamplePleKernelIdeal.nD,
      m' ((c.tc : Thread Cert.SamplePleReferenceIdeal.nD Cert.SamplePleReferenceIdeal.τ).loc Cert.SamplePleReferenceIdeal.main_arg0) = m ((c.tc : Thread Cert.SamplePleKernelIdeal.nD Cert.SamplePleKernelIdeal.τ).loc Cert.SamplePleKernelIdeal.main_arg0)
      ∧ m' ((c.tc : Thread Cert.SamplePleReferenceIdeal.nD Cert.SamplePleReferenceIdeal.τ).loc Cert.SamplePleReferenceIdeal.main_arg1) = m ((c.tc : Thread Cert.SamplePleKernelIdeal.nD Cert.SamplePleKernelIdeal.τ).loc Cert.SamplePleKernelIdeal.main_arg1)
      ∧ m' ((c.tc : Thread Cert.SamplePleReferenceIdeal.nD Cert.SamplePleReferenceIdeal.τ).loc Cert.SamplePleReferenceIdeal.main_arg2) = m ((c.tc : Thread Cert.SamplePleKernelIdeal.nD Cert.SamplePleKernelIdeal.τ).loc Cert.SamplePleKernelIdeal.main_arg2)
      ∧ m' ((c.tc : Thread Cert.SamplePleReferenceIdeal.nD Cert.SamplePleReferenceIdeal.τ).loc Cert.SamplePleReferenceIdeal.main_arg3) = m ((c.tc : Thread Cert.SamplePleKernelIdeal.nD Cert.SamplePleKernelIdeal.τ).loc Cert.SamplePleKernelIdeal.main_arg3)
      ∧ m' ((c.tc : Thread Cert.SamplePleReferenceIdeal.nD Cert.SamplePleReferenceIdeal.τ).loc Cert.SamplePleReferenceIdeal.main_arg4) = m ((c.tc : Thread Cert.SamplePleKernelIdeal.nD Cert.SamplePleKernelIdeal.τ).loc Cert.SamplePleKernelIdeal.main_arg4)
      ∧ m' ((c.tc : Thread Cert.SamplePleReferenceIdeal.nD Cert.SamplePleReferenceIdeal.τ).loc Cert.SamplePleReferenceIdeal.main_arg5) = m ((c.tc : Thread Cert.SamplePleKernelIdeal.nD Cert.SamplePleKernelIdeal.τ).loc Cert.SamplePleKernelIdeal.main_arg5)
      ∧ m' ((c.tc : Thread Cert.SamplePleReferenceIdeal.nD Cert.SamplePleReferenceIdeal.τ).loc Cert.SamplePleReferenceIdeal.main_arg6) = m ((c.tc : Thread Cert.SamplePleKernelIdeal.nD Cert.SamplePleKernelIdeal.τ).loc Cert.SamplePleKernelIdeal.main_arg6)) →
    ∃ (v0 : (c : Dev Cert.SamplePleKernelIdeal.nD) → Buf (Elt Ideal) ((c.tc : Thread Cert.SamplePleKernelIdeal.nD Cert.SamplePleKernelIdeal.τ).loc Cert.SamplePleKernelIdeal.main_v4)),
      θ_run (Cert.SamplePleKernelIdeal.defs (F := Ideal)) (onTc (τ := Cert.SamplePleKernelIdeal.τ) (Cert.SamplePleKernelIdeal.main (F := Ideal))) ⟨m, fun _ => 0, g⟩ (fun r => ∀ c : Dev Cert.SamplePleKernelIdeal.nD,
          r.2.mem ((c.tc : Thread Cert.SamplePleKernelIdeal.nD Cert.SamplePleKernelIdeal.τ).loc Cert.SamplePleKernelIdeal.main_v4) = v0 c
          ∧ r.2.mem ((c.tc : Thread Cert.SamplePleKernelIdeal.nD Cert.SamplePleKernelIdeal.τ).loc Cert.SamplePleKernelIdeal.main_arg0) = m ((c.tc : Thread Cert.SamplePleKernelIdeal.nD Cert.SamplePleKernelIdeal.τ).loc Cert.SamplePleKernelIdeal.main_arg0)
          ∧ r.2.mem ((c.tc : Thread Cert.SamplePleKernelIdeal.nD Cert.SamplePleKernelIdeal.τ).loc Cert.SamplePleKernelIdeal.main_arg1) = m ((c.tc : Thread Cert.SamplePleKernelIdeal.nD Cert.SamplePleKernelIdeal.τ).loc Cert.SamplePleKernelIdeal.main_arg1)
          ∧ r.2.mem ((c.tc : Thread Cert.SamplePleKernelIdeal.nD Cert.SamplePleKernelIdeal.τ).loc Cert.SamplePleKernelIdeal.main_arg2) = m ((c.tc : Thread Cert.SamplePleKernelIdeal.nD Cert.SamplePleKernelIdeal.τ).loc Cert.SamplePleKernelIdeal.main_arg2)
          ∧ r.2.mem ((c.tc : Thread Cert.SamplePleKernelIdeal.nD Cert.SamplePleKernelIdeal.τ).loc Cert.SamplePleKernelIdeal.main_arg3) = m ((c.tc : Thread Cert.SamplePleKernelIdeal.nD Cert.SamplePleKernelIdeal.τ).loc Cert.SamplePleKernelIdeal.main_arg3)
          ∧ r.2.mem ((c.tc : Thread Cert.SamplePleKernelIdeal.nD Cert.SamplePleKernelIdeal.τ).loc Cert.SamplePleKernelIdeal.main_arg4) = m ((c.tc : Thread Cert.SamplePleKernelIdeal.nD Cert.SamplePleKernelIdeal.τ).loc Cert.SamplePleKernelIdeal.main_arg4)
          ∧ r.2.mem ((c.tc : Thread Cert.SamplePleKernelIdeal.nD Cert.SamplePleKernelIdeal.τ).loc Cert.SamplePleKernelIdeal.main_arg5) = m ((c.tc : Thread Cert.SamplePleKernelIdeal.nD Cert.SamplePleKernelIdeal.τ).loc Cert.SamplePleKernelIdeal.main_arg5)
          ∧ r.2.mem ((c.tc : Thread Cert.SamplePleKernelIdeal.nD Cert.SamplePleKernelIdeal.τ).loc Cert.SamplePleKernelIdeal.main_arg6) = m ((c.tc : Thread Cert.SamplePleKernelIdeal.nD Cert.SamplePleKernelIdeal.τ).loc Cert.SamplePleKernelIdeal.main_arg6))
      ∧ θ_run (Cert.SamplePleReferenceIdeal.defs (F := Ideal)) (onTc (τ := Cert.SamplePleReferenceIdeal.τ) (Cert.SamplePleReferenceIdeal.main (F := Ideal))) ⟨m', fun _ => 0, g'⟩ (fun r => ∀ c : Dev Cert.SamplePleReferenceIdeal.nD,
          r.2.mem ((c.tc : Thread Cert.SamplePleReferenceIdeal.nD Cert.SamplePleReferenceIdeal.τ).loc Cert.SamplePleReferenceIdeal.main_v36) = v0 c
          ∧ r.2.mem ((c.tc : Thread Cert.SamplePleReferenceIdeal.nD Cert.SamplePleReferenceIdeal.τ).loc Cert.SamplePleReferenceIdeal.main_arg0) = m' ((c.tc : Thread Cert.SamplePleReferenceIdeal.nD Cert.SamplePleReferenceIdeal.τ).loc Cert.SamplePleReferenceIdeal.main_arg0)
          ∧ r.2.mem ((c.tc : Thread Cert.SamplePleReferenceIdeal.nD Cert.SamplePleReferenceIdeal.τ).loc Cert.SamplePleReferenceIdeal.main_arg1) = m' ((c.tc : Thread Cert.SamplePleReferenceIdeal.nD Cert.SamplePleReferenceIdeal.τ).loc Cert.SamplePleReferenceIdeal.main_arg1)
          ∧ r.2.mem ((c.tc : Thread Cert.SamplePleReferenceIdeal.nD Cert.SamplePleReferenceIdeal.τ).loc Cert.SamplePleReferenceIdeal.main_arg2) = m' ((c.tc : Thread Cert.SamplePleReferenceIdeal.nD Cert.SamplePleReferenceIdeal.τ).loc Cert.SamplePleReferenceIdeal.main_arg2)
          ∧ r.2.mem ((c.tc : Thread Cert.SamplePleReferenceIdeal.nD Cert.SamplePleReferenceIdeal.τ).loc Cert.SamplePleReferenceIdeal.main_arg3) = m' ((c.tc : Thread Cert.SamplePleReferenceIdeal.nD Cert.SamplePleReferenceIdeal.τ).loc Cert.SamplePleReferenceIdeal.main_arg3)
          ∧ r.2.mem ((c.tc : Thread Cert.SamplePleReferenceIdeal.nD Cert.SamplePleReferenceIdeal.τ).loc Cert.SamplePleReferenceIdeal.main_arg4) = m' ((c.tc : Thread Cert.SamplePleReferenceIdeal.nD Cert.SamplePleReferenceIdeal.τ).loc Cert.SamplePleReferenceIdeal.main_arg4)
          ∧ r.2.mem ((c.tc : Thread Cert.SamplePleReferenceIdeal.nD Cert.SamplePleReferenceIdeal.τ).loc Cert.SamplePleReferenceIdeal.main_arg5) = m' ((c.tc : Thread Cert.SamplePleReferenceIdeal.nD Cert.SamplePleReferenceIdeal.τ).loc Cert.SamplePleReferenceIdeal.main_arg5)
          ∧ r.2.mem ((c.tc : Thread Cert.SamplePleReferenceIdeal.nD Cert.SamplePleReferenceIdeal.τ).loc Cert.SamplePleReferenceIdeal.main_arg6) = m' ((c.tc : Thread Cert.SamplePleReferenceIdeal.nD Cert.SamplePleReferenceIdeal.τ).loc Cert.SamplePleReferenceIdeal.main_arg6))

def preserves_SampleGmlpKernel_SampleGmlpKernelIdeal : Prop :=
  True

def algebraic_SampleGmlpKernelIdeal_SampleGmlpReferenceIdeal [hSampleGmlpKernelIdeal : Cert.SampleGmlpKernelIdeal.Facts] [hSampleGmlpReferenceIdeal : Cert.SampleGmlpReferenceIdeal.Facts] : Prop :=
  ∀ (m : (ℓ : Loc Cert.SampleGmlpKernelIdeal.nD Cert.SampleGmlpKernelIdeal.τ Cert.SampleGmlpKernelIdeal.sig) → Buf (Elt Ideal) ℓ) (g : Dev Cert.SampleGmlpKernelIdeal.nD → PrngReg)
    (m' : (ℓ : Loc Cert.SampleGmlpReferenceIdeal.nD Cert.SampleGmlpReferenceIdeal.τ Cert.SampleGmlpReferenceIdeal.sig) → Buf (Elt Ideal) ℓ) (g' : Dev Cert.SampleGmlpReferenceIdeal.nD → PrngReg), Pre_SampleGmlpKernelIdeal m →
    (∀ c : Dev Cert.SampleGmlpKernelIdeal.nD,
      m' ((c.tc : Thread Cert.SampleGmlpReferenceIdeal.nD Cert.SampleGmlpReferenceIdeal.τ).loc Cert.SampleGmlpReferenceIdeal.main_arg0) = m ((c.tc : Thread Cert.SampleGmlpKernelIdeal.nD Cert.SampleGmlpKernelIdeal.τ).loc Cert.SampleGmlpKernelIdeal.main_arg0)
      ∧ m' ((c.tc : Thread Cert.SampleGmlpReferenceIdeal.nD Cert.SampleGmlpReferenceIdeal.τ).loc Cert.SampleGmlpReferenceIdeal.main_arg1) = m ((c.tc : Thread Cert.SampleGmlpKernelIdeal.nD Cert.SampleGmlpKernelIdeal.τ).loc Cert.SampleGmlpKernelIdeal.main_arg1)
      ∧ m' ((c.tc : Thread Cert.SampleGmlpReferenceIdeal.nD Cert.SampleGmlpReferenceIdeal.τ).loc Cert.SampleGmlpReferenceIdeal.main_arg2) = m ((c.tc : Thread Cert.SampleGmlpKernelIdeal.nD Cert.SampleGmlpKernelIdeal.τ).loc Cert.SampleGmlpKernelIdeal.main_arg2)
      ∧ m' ((c.tc : Thread Cert.SampleGmlpReferenceIdeal.nD Cert.SampleGmlpReferenceIdeal.τ).loc Cert.SampleGmlpReferenceIdeal.main_arg3) = m ((c.tc : Thread Cert.SampleGmlpKernelIdeal.nD Cert.SampleGmlpKernelIdeal.τ).loc Cert.SampleGmlpKernelIdeal.main_arg3)
      ∧ m' ((c.tc : Thread Cert.SampleGmlpReferenceIdeal.nD Cert.SampleGmlpReferenceIdeal.τ).loc Cert.SampleGmlpReferenceIdeal.main_arg4) = m ((c.tc : Thread Cert.SampleGmlpKernelIdeal.nD Cert.SampleGmlpKernelIdeal.τ).loc Cert.SampleGmlpKernelIdeal.main_arg4)) →
    ∃ (v0 : (c : Dev Cert.SampleGmlpKernelIdeal.nD) → Buf (Elt Ideal) ((c.tc : Thread Cert.SampleGmlpKernelIdeal.nD Cert.SampleGmlpKernelIdeal.τ).loc Cert.SampleGmlpKernelIdeal.main_v51_0)) (v1 : (c : Dev Cert.SampleGmlpKernelIdeal.nD) → Buf (Elt Ideal) ((c.tc : Thread Cert.SampleGmlpKernelIdeal.nD Cert.SampleGmlpKernelIdeal.τ).loc Cert.SampleGmlpKernelIdeal.main_v51_1)),
      θ_run (Cert.SampleGmlpKernelIdeal.defs (F := Ideal)) (onTc (τ := Cert.SampleGmlpKernelIdeal.τ) (Cert.SampleGmlpKernelIdeal.main (F := Ideal))) ⟨m, fun _ => 0, g⟩ (fun r => ∀ c : Dev Cert.SampleGmlpKernelIdeal.nD,
          r.2.mem ((c.tc : Thread Cert.SampleGmlpKernelIdeal.nD Cert.SampleGmlpKernelIdeal.τ).loc Cert.SampleGmlpKernelIdeal.main_v51_0) = v0 c
          ∧ r.2.mem ((c.tc : Thread Cert.SampleGmlpKernelIdeal.nD Cert.SampleGmlpKernelIdeal.τ).loc Cert.SampleGmlpKernelIdeal.main_v51_1) = v1 c
          ∧ r.2.mem ((c.tc : Thread Cert.SampleGmlpKernelIdeal.nD Cert.SampleGmlpKernelIdeal.τ).loc Cert.SampleGmlpKernelIdeal.main_arg0) = m ((c.tc : Thread Cert.SampleGmlpKernelIdeal.nD Cert.SampleGmlpKernelIdeal.τ).loc Cert.SampleGmlpKernelIdeal.main_arg0)
          ∧ r.2.mem ((c.tc : Thread Cert.SampleGmlpKernelIdeal.nD Cert.SampleGmlpKernelIdeal.τ).loc Cert.SampleGmlpKernelIdeal.main_arg1) = m ((c.tc : Thread Cert.SampleGmlpKernelIdeal.nD Cert.SampleGmlpKernelIdeal.τ).loc Cert.SampleGmlpKernelIdeal.main_arg1)
          ∧ r.2.mem ((c.tc : Thread Cert.SampleGmlpKernelIdeal.nD Cert.SampleGmlpKernelIdeal.τ).loc Cert.SampleGmlpKernelIdeal.main_arg2) = m ((c.tc : Thread Cert.SampleGmlpKernelIdeal.nD Cert.SampleGmlpKernelIdeal.τ).loc Cert.SampleGmlpKernelIdeal.main_arg2)
          ∧ r.2.mem ((c.tc : Thread Cert.SampleGmlpKernelIdeal.nD Cert.SampleGmlpKernelIdeal.τ).loc Cert.SampleGmlpKernelIdeal.main_arg3) = m ((c.tc : Thread Cert.SampleGmlpKernelIdeal.nD Cert.SampleGmlpKernelIdeal.τ).loc Cert.SampleGmlpKernelIdeal.main_arg3)
          ∧ r.2.mem ((c.tc : Thread Cert.SampleGmlpKernelIdeal.nD Cert.SampleGmlpKernelIdeal.τ).loc Cert.SampleGmlpKernelIdeal.main_arg4) = m ((c.tc : Thread Cert.SampleGmlpKernelIdeal.nD Cert.SampleGmlpKernelIdeal.τ).loc Cert.SampleGmlpKernelIdeal.main_arg4))
      ∧ θ_run (Cert.SampleGmlpReferenceIdeal.defs (F := Ideal)) (onTc (τ := Cert.SampleGmlpReferenceIdeal.τ) (Cert.SampleGmlpReferenceIdeal.main (F := Ideal))) ⟨m', fun _ => 0, g'⟩ (fun r => ∀ c : Dev Cert.SampleGmlpReferenceIdeal.nD,
          r.2.mem ((c.tc : Thread Cert.SampleGmlpReferenceIdeal.nD Cert.SampleGmlpReferenceIdeal.τ).loc Cert.SampleGmlpReferenceIdeal.main_v44) = v0 c
          ∧ r.2.mem ((c.tc : Thread Cert.SampleGmlpReferenceIdeal.nD Cert.SampleGmlpReferenceIdeal.τ).loc Cert.SampleGmlpReferenceIdeal.main_v23) = v1 c
          ∧ r.2.mem ((c.tc : Thread Cert.SampleGmlpReferenceIdeal.nD Cert.SampleGmlpReferenceIdeal.τ).loc Cert.SampleGmlpReferenceIdeal.main_arg0) = m' ((c.tc : Thread Cert.SampleGmlpReferenceIdeal.nD Cert.SampleGmlpReferenceIdeal.τ).loc Cert.SampleGmlpReferenceIdeal.main_arg0)
          ∧ r.2.mem ((c.tc : Thread Cert.SampleGmlpReferenceIdeal.nD Cert.SampleGmlpReferenceIdeal.τ).loc Cert.SampleGmlpReferenceIdeal.main_arg1) = m' ((c.tc : Thread Cert.SampleGmlpReferenceIdeal.nD Cert.SampleGmlpReferenceIdeal.τ).loc Cert.SampleGmlpReferenceIdeal.main_arg1)
          ∧ r.2.mem ((c.tc : Thread Cert.SampleGmlpReferenceIdeal.nD Cert.SampleGmlpReferenceIdeal.τ).loc Cert.SampleGmlpReferenceIdeal.main_arg2) = m' ((c.tc : Thread Cert.SampleGmlpReferenceIdeal.nD Cert.SampleGmlpReferenceIdeal.τ).loc Cert.SampleGmlpReferenceIdeal.main_arg2)
          ∧ r.2.mem ((c.tc : Thread Cert.SampleGmlpReferenceIdeal.nD Cert.SampleGmlpReferenceIdeal.τ).loc Cert.SampleGmlpReferenceIdeal.main_arg3) = m' ((c.tc : Thread Cert.SampleGmlpReferenceIdeal.nD Cert.SampleGmlpReferenceIdeal.τ).loc Cert.SampleGmlpReferenceIdeal.main_arg3)
          ∧ r.2.mem ((c.tc : Thread Cert.SampleGmlpReferenceIdeal.nD Cert.SampleGmlpReferenceIdeal.τ).loc Cert.SampleGmlpReferenceIdeal.main_arg4) = m' ((c.tc : Thread Cert.SampleGmlpReferenceIdeal.nD Cert.SampleGmlpReferenceIdeal.τ).loc Cert.SampleGmlpReferenceIdeal.main_arg4))

def Claim : Prop :=
  ∃ (hAttnKernel : Cert.AttnKernel.Facts) (hAttnKernelIdeal : Cert.AttnKernelIdeal.Facts) (hAttnReferenceIdeal : Cert.AttnReferenceIdeal.Facts) (hInprojKernel : Cert.InprojKernel.Facts) (hInprojKernelIdeal : Cert.InprojKernelIdeal.Facts) (hInprojReferenceIdeal : Cert.InprojReferenceIdeal.Facts) (hMergeKernel : Cert.MergeKernel.Facts) (hMergeKernelIdeal : Cert.MergeKernelIdeal.Facts) (hMergeReferenceIdeal : Cert.MergeReferenceIdeal.Facts) (hPleKernel : Cert.PleKernel.Facts) (hPleKernelIdeal : Cert.PleKernelIdeal.Facts) (hPleReferenceIdeal : Cert.PleReferenceIdeal.Facts) (hGmlpKernel : Cert.GmlpKernel.Facts) (hGmlpKernelIdeal : Cert.GmlpKernelIdeal.Facts) (hGmlpReferenceIdeal : Cert.GmlpReferenceIdeal.Facts) (hSampleInprojKernel : Cert.SampleInprojKernel.Facts) (hSampleInprojKernelIdeal : Cert.SampleInprojKernelIdeal.Facts) (hSampleInprojReferenceIdeal : Cert.SampleInprojReferenceIdeal.Facts) (hSamplePleKernel : Cert.SamplePleKernel.Facts) (hSamplePleKernelIdeal : Cert.SamplePleKernelIdeal.Facts) (hSamplePleReferenceIdeal : Cert.SamplePleReferenceIdeal.Facts) (hSampleGmlpKernel : Cert.SampleGmlpKernel.Facts) (hSampleGmlpKernelIdeal : Cert.SampleGmlpKernelIdeal.Facts) (hSampleGmlpReferenceIdeal : Cert.SampleGmlpReferenceIdeal.Facts) (hPre_attn_finite : Cert.Pre_attn_finite.Facts),
    quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_GmlpKernel (hGmlpKernel := hGmlpKernel)
    ∧ quiescent_GmlpKernelIdeal (hGmlpKernelIdeal := hGmlpKernelIdeal)
    ∧ quiescent_GmlpReferenceIdeal (hGmlpReferenceIdeal := hGmlpReferenceIdeal)
    ∧ quiescent_SampleInprojKernel (hSampleInprojKernel := hSampleInprojKernel)
    ∧ quiescent_SampleInprojKernelIdeal (hSampleInprojKernelIdeal := hSampleInprojKernelIdeal)
    ∧ quiescent_SampleInprojReferenceIdeal (hSampleInprojReferenceIdeal := hSampleInprojReferenceIdeal)
    ∧ quiescent_SamplePleKernel (hSamplePleKernel := hSamplePleKernel)
    ∧ quiescent_SamplePleKernelIdeal (hSamplePleKernelIdeal := hSamplePleKernelIdeal)
    ∧ quiescent_SamplePleReferenceIdeal (hSamplePleReferenceIdeal := hSamplePleReferenceIdeal)
    ∧ quiescent_SampleGmlpKernel (hSampleGmlpKernel := hSampleGmlpKernel)
    ∧ quiescent_SampleGmlpKernelIdeal (hSampleGmlpKernelIdeal := hSampleGmlpKernelIdeal)
    ∧ quiescent_SampleGmlpReferenceIdeal (hSampleGmlpReferenceIdeal := hSampleGmlpReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_InprojKernel_InprojKernelIdeal
    ∧ algebraic_InprojKernelIdeal_InprojReferenceIdeal (hInprojKernelIdeal := hInprojKernelIdeal) (hInprojReferenceIdeal := hInprojReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_PleKernel_PleKernelIdeal
    ∧ algebraic_PleKernelIdeal_PleReferenceIdeal (hPleKernelIdeal := hPleKernelIdeal) (hPleReferenceIdeal := hPleReferenceIdeal)
    ∧ preserves_GmlpKernel_GmlpKernelIdeal
    ∧ algebraic_GmlpKernelIdeal_GmlpReferenceIdeal (hGmlpKernelIdeal := hGmlpKernelIdeal) (hGmlpReferenceIdeal := hGmlpReferenceIdeal)
    ∧ preserves_SampleInprojKernel_SampleInprojKernelIdeal
    ∧ algebraic_SampleInprojKernelIdeal_SampleInprojReferenceIdeal (hSampleInprojKernelIdeal := hSampleInprojKernelIdeal) (hSampleInprojReferenceIdeal := hSampleInprojReferenceIdeal)
    ∧ preserves_SamplePleKernel_SamplePleKernelIdeal
    ∧ algebraic_SamplePleKernelIdeal_SamplePleReferenceIdeal (hSamplePleKernelIdeal := hSamplePleKernelIdeal) (hSamplePleReferenceIdeal := hSamplePleReferenceIdeal)
    ∧ preserves_SampleGmlpKernel_SampleGmlpKernelIdeal
    ∧ algebraic_SampleGmlpKernelIdeal_SampleGmlpReferenceIdeal (hSampleGmlpKernelIdeal := hSampleGmlpKernelIdeal) (hSampleGmlpReferenceIdeal := hSampleGmlpReferenceIdeal)
-- ==== Pre_attn_finite.lean ====
abbrev S32768x6144 : Shape := ⟨2, ![32768, 6144]⟩
abbrev S8x128x640 : Shape := ⟨3, ![8, 128, 640]⟩
abbrev S32768x1024 : Shape := ⟨2, ![32768, 1024]⟩
abbrev S_ : Shape := ⟨0, ![]⟩

class Facts : Prop where
  slices_S32768x6144_S32768x1024_0_1536 : S32768x6144.Slices ![0, 1536] S32768x1024
  bcast_S_S32768x1024 : S_.BroadcastsInDim S32768x1024 (![] : Fin 0 → Fin S32768x1024.rank)
  bcast_S_S8x128x640 : S_.BroadcastsInDim S8x128x640 (![] : Fin 0 → Fin S8x128x640.rank)

variable [Facts]

def fn {F : FTy → Type} [FloatOps F] (main_arg0 : FVec F S32768x6144 .f32) (main_arg1 : FVec F S8x128x640 .f32) : IVec S32768x1024 1 × IVec S8x128x640 1 :=
  let main_v0 : FVec F S32768x1024 .f32 := (extractStridedSlice S32768x1024 ![0, 1536] · slices_S32768x6144_S32768x1024_0_1536) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S8x128x640 .f32 := Host.absf main_arg1
  let main_cst_0 : FVec F S_ .f32 := constant S_ .f32 0x7F800000#32
  let main_v5 : FVec F S8x128x640 .f32 := broadcastInDim S8x128x640 ![] bcast_S_S8x128x640 main_cst_0
  let main_v6 : IVec S8x128x640 1 := cmpf .olt main_v4 main_v5
  (main_v3, main_v6)
-- ==== AttnKernel.lean ====
abbrev S32768x6144 : Shape := ⟨2, ![32768, 6144]⟩
abbrev S8x128x640 : Shape := ⟨3, ![8, 128, 640]⟩
abbrev S32768x512 : Shape := ⟨2, ![32768, 512]⟩
abbrev S128x512 : Shape := ⟨2, ![128, 512]⟩
abbrev S640x512 : Shape := ⟨2, ![640, 512]⟩
abbrev S128x640 : Shape := ⟨2, ![128, 640]⟩
abbrev S128x64 : Shape := ⟨2, ![128, 64]⟩
abbrev S640x64 : Shape := ⟨2, ![640, 64]⟩
abbrev S1x128x640 : Shape := ⟨3, ![1, 128, 640]⟩
abbrev S128 : Shape := ⟨1, ![128]⟩
abbrev S128x1 : Shape := ⟨2, ![128, 1]⟩

abbrev nBuf : Space → Nat
  | .hbm => 3
  | .vmem => 25
  | .smem => 0
  | _ => 0

abbrev bufTy : (tb : Table) → Fin (tcTables nBuf tb) → BufTy
  | .hbm, ⟨0, _⟩ => ⟨S32768x6144, .f32⟩
  | .hbm, ⟨1, _⟩ => ⟨S8x128x640, .f32⟩
  | .hbm, ⟨2, _⟩ => ⟨S32768x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S8x128x640, .f32⟩
  | .local _ .vmem, ⟨23, _⟩ => ⟨S128x512, .f32⟩
  | .local _ .vmem, ⟨24, _⟩ => ⟨S128x512, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.subi arg1 c4_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c4_i32_1 : BitVec 32 := 4#32
  let c0_i32_2 : BitVec 32 := 0#32
  ![v4.toNat, c4_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.subi arg1 c4_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c4_i32_0 : BitVec 32 := 4#32
  let c0_i32_1 : BitVec 32 := 0#32
  ![v4.toNat, c4_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.subi arg1 c4_i32
  let c2_i32 : BitVec 32 := 2#32
  let v2 : BitVec 32 := Scalar.addi v1 c2_i32
  let c0_i32 : BitVec 32 := 0#32
  let v3 : BitVec 32 := Scalar.maxsi v2 c0_i32
  let v4 : BitVec 32 := Scalar.addi v0 v3
  let c4_i32_0 : BitVec 32 := 4#32
  let c0_i32_1 : BitVec 32 := 0#32
  ![v4.toNat, c4_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.subi arg1 c4_i32
  let c3_i32 : BitVec 32 := 3#32
  let v2 : BitVec 32 := Scalar.addi v1 c3_i32
  let c0_i32 : BitVec 32 := 0#32
  let v3 : BitVec 32 := Scalar.maxsi v2 c0_i32
  let v4 : BitVec 32 := Scalar.addi v0 v3
  let c4_i32_0 : BitVec 32 := 4#32
  let c0_i32_1 : BitVec 32 := 0#32
  ![v4.toNat, c4_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.subi arg1 c4_i32
  let c4_i32_0 : BitVec 32 := 4#32
  let v2 : BitVec 32 := Scalar.addi v1 c4_i32_0
  let c0_i32 : BitVec 32 := 0#32
  let v3 : BitVec 32 := Scalar.maxsi v2 c0_i32
  let v4 : BitVec 32 := Scalar.addi v0 v3
  let c4_i32_1 : BitVec 32 := 4#32
  let c0_i32_2 : BitVec 32 := 0#32
  ![v4.toNat, c4_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.subi arg1 c4_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c5_i32 : BitVec 32 := 5#32
  let c0_i32_1 : BitVec 32 := 0#32
  ![v4.toNat, c5_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.subi arg1 c4_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c5_i32 : BitVec 32 := 5#32
  let c0_i32_0 : BitVec 32 := 0#32
  ![v4.toNat, c5_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.subi arg1 c4_i32
  let c2_i32 : BitVec 32 := 2#32
  let v2 : BitVec 32 := Scalar.addi v1 c2_i32
  let c0_i32 : BitVec 32 := 0#32
  let v3 : BitVec 32 := Scalar.maxsi v2 c0_i32
  let v4 : BitVec 32 := Scalar.addi v0 v3
  let c5_i32 : BitVec 32 := 5#32
  let c0_i32_0 : BitVec 32 := 0#32
  ![v4.toNat, c5_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.subi arg1 c4_i32
  let c3_i32 : BitVec 32 := 3#32
  let v2 : BitVec 32 := Scalar.addi v1 c3_i32
  let c0_i32 : BitVec 32 := 0#32
  let v3 : BitVec 32 := Scalar.maxsi v2 c0_i32
  let v4 : BitVec 32 := Scalar.addi v0 v3
  let c5_i32 : BitVec 32 := 5#32
  let c0_i32_0 : BitVec 32 := 0#32
  ![v4.toNat, c5_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.subi arg1 c4_i32
  let c4_i32_0 : BitVec 32 := 4#32
  let v2 : BitVec 32 := Scalar.addi v1 c4_i32_0
  let c0_i32 : BitVec 32 := 0#32
  let v3 : BitVec 32 := Scalar.maxsi v2 c0_i32
  let v4 : BitVec 32 := Scalar.addi v0 v3
  let c5_i32 : BitVec 32 := 5#32
  let c0_i32_1 : BitVec 32 := 0#32
  ![v4.toNat, c5_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x128x640 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnKernelIdeal.lean ====
variable {F : FTy → Type} [FloatOps F] [Named F]
def κ : String → Option EReal := fun
  | "mask" => some ⊥
  | _ => none
-- ==== AttnReferenceIdeal.lean ====
abbrev S32768x6144 : Shape := ⟨2, ![32768, 6144]⟩
abbrev S8x128x640 : Shape := ⟨3, ![8, 128, 640]⟩
abbrev S32768x512 : Shape := ⟨2, ![32768, 512]⟩
abbrev S16x2048x8x64 : Shape := ⟨4, ![16, 2048, 8, 64]⟩
abbrev S16x8x2048x2048 : Shape := ⟨4, ![16, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x2 : Shape := ⟨3, ![2048, 2048, 2]⟩
abbrev S8x2048x2048 : Shape := ⟨3, ![8, 2048, 2048]⟩
abbrev S1x8x2048x2048 : Shape := ⟨4, ![1, 8, 2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩

abbrev nBuf : Space → Nat
  | .hbm => 144
  | .vmem => 0
  | .smem => 0
  | _ => 0

abbrev hbmTy0_0 (i : Nat) : BufTy := match i % 128 with
  | 0 => ⟨S32768x6144, .f32⟩
  | 1 => ⟨S8x128x640, .f32⟩
  | 2 => ⟨S32768x512, .f32⟩
  | 3 => ⟨S16x2048x8x64, .f32⟩
  | 4 => ⟨S32768x512, .f32⟩
  | 5 => ⟨S16x2048x8x64, .f32⟩
  | 6 => ⟨S32768x512, .f32⟩
  | 7 => ⟨S16x2048x8x64, .f32⟩
  | 8 => ⟨S16x8x2048x2048, .f32⟩
  | 9 => ⟨S_, .f32⟩
  | 10 => ⟨S16x8x2048x2048, .f32⟩
  | 11 => ⟨S16x8x2048x2048, .f32⟩
  | 12 => ⟨S2048, .i32⟩
  | 13 => ⟨S2048x1, .i32⟩
  | 14 => ⟨S2048, .i32⟩
  | 15 => ⟨S1x2048, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S2048x1, .i32⟩
  | 23 => ⟨S2048x1, .i32⟩
  | 24 => ⟨S_, .i32⟩
  | 25 => ⟨S2048x1, .i32⟩
  | 26 => ⟨S2048x1, .i1⟩
  | 27 => ⟨S_, .i32⟩
  | 28 => ⟨S2048x1, .i32⟩
  | 29 => ⟨S2048x1, .i1⟩
  | 30 => ⟨S_, .i32⟩
  | 31 => ⟨S_, .i1⟩
  | 32 => ⟨S2048x1, .i1⟩
  | 33 => ⟨S2048x1, .i1⟩
  | 34 => ⟨S2048x1, .i1⟩
  | 35 => ⟨S2048x1, .i32⟩
  | 36 => ⟨S2048x1, .i32⟩
  | 37 => ⟨S2048x1, .i32⟩
  | 38 => ⟨S2048x1, .i32⟩
  | 39 => ⟨S2048x2048, .i32⟩
  | 40 => ⟨S2048x2048, .i32⟩
  | 41 => ⟨S2048x2048, .i32⟩
  | 42 => ⟨S_, .i32⟩
  | 43 => ⟨S2048x2048, .i32⟩
  | 44 => ⟨S2048x2048, .i32⟩
  | 45 => ⟨S_, .i32⟩
  | 46 => ⟨S_, .i32⟩
  | 47 => ⟨S_, .i32⟩
  | 48 => ⟨S2048x2048, .i32⟩
  | 49 => ⟨S2048x2048, .i32⟩
  | 50 => ⟨S_, .i32⟩
  | 51 => ⟨S2048x2048, .i32⟩
  | 52 => ⟨S2048x2048, .i32⟩
  | 53 => ⟨S_, .i32⟩
  | 54 => ⟨S2048x1, .i32⟩
  | 55 => ⟨S2048x1, .i1⟩
  | 56 => ⟨S_, .i32⟩
  | 57 => ⟨S2048x1, .i32⟩
  | 58 => ⟨S2048x1, .i32⟩
  | 59 => ⟨S2048x1, .i32⟩
  | 60 => ⟨S_, .i32⟩
  | 61 => ⟨S2048x2048, .i32⟩
  | 62 => ⟨S2048x2048, .i1⟩
  | 63 => ⟨S_, .i32⟩
  | 64 => ⟨S2048x2048, .i32⟩
  | 65 => ⟨S2048x2048, .i32⟩
  | 66 => ⟨S2048x2048, .i32⟩
  | 67 => ⟨S2048x2048, .i32⟩
  | 68 => ⟨S2048x2048x1, .i32⟩
  | 69 => ⟨S2048x2048x1, .i32⟩
  | 70 => ⟨S2048x2048x2, .i32⟩
  | 71 => ⟨S8x2048x2048, .f32⟩
  | 72 => ⟨S1x8x2048x2048, .f32⟩
  | 73 => ⟨S16x8x2048x2048, .f32⟩
  | 74 => ⟨S16x8x2048x2048, .f32⟩
  | 75 => ⟨S_, .i32⟩
  | 76 => ⟨S_, .i32⟩
  | 77 => ⟨S2048x1, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S2048x1, .i32⟩
  | 84 => ⟨S2048x1, .i32⟩
  | 85 => ⟨S_, .i32⟩
  | 86 => ⟨S2048x1, .i32⟩
  | 87 => ⟨S2048x1, .i1⟩
  | 88 => ⟨S2048x1, .i1⟩
  | 89 => ⟨S_, .i32⟩
  | 90 => ⟨S2048x1, .i32⟩
  | 91 => ⟨S2048x1, .i32⟩
  | 92 => ⟨S2048x1, .i32⟩
  | 93 => ⟨S_, .i32⟩
  | 94 => ⟨S_, .i32⟩
  | 95 => ⟨S1x2048, .i32⟩
  | 96 => ⟨S1x2048, .i32⟩
  | 97 => ⟨S1x2048, .i32⟩
  | 98 => ⟨S_, .i32⟩
  | 99 => ⟨S1x2048, .i32⟩
  | 100 => ⟨S1x2048, .i1⟩
  | 101 => ⟨S1x2048, .i32⟩
  | 102 => ⟨S1x2048, .i32⟩
  | 103 => ⟨S_, .i32⟩
  | 104 => ⟨S1x2048, .i32⟩
  | 105 => ⟨S1x2048, .i1⟩
  | 106 => ⟨S1x2048, .i1⟩
  | 107 => ⟨S_, .i32⟩
  | 108 => ⟨S1x2048, .i32⟩
  | 109 => ⟨S1x2048, .i32⟩
  | 110 => ⟨S1x2048, .i32⟩
  | 111 => ⟨S2048x2048, .i32⟩
  | 112 => ⟨S2048x2048, .i32⟩
  | 113 => ⟨S2048x2048, .i32⟩
  | 114 => ⟨S_, .i32⟩
  | 115 => ⟨S2048x2048, .i32⟩
  | 116 => ⟨S2048x2048, .i1⟩
  | 117 => ⟨S_, .i32⟩
  | 118 => ⟨S2048x2048, .i32⟩
  | 119 => ⟨S2048x2048, .i1⟩
  | 120 => ⟨S2048x2048, .i1⟩
  | 121 => ⟨S1x1x2048x2048, .i1⟩
  | 122 => ⟨S_, .f32⟩
  | 123 => ⟨S_, .f32⟩
  | 124 => ⟨S16x8x2048x2048, .i1⟩
  | 125 => ⟨S16x8x2048x2048, .f32⟩
  | 126 => ⟨S16x8x2048x2048, .f32⟩
  | 127 => ⟨S_, .f32⟩
  | _ => ⟨S32768x6144, .f32⟩

abbrev hbmTy0_1 (i : Nat) : BufTy := match i % 128 with
  | 0 => ⟨S16x8x2048, .f32⟩
  | 1 => ⟨S_, .f32⟩
  | 2 => ⟨S16x8x2048, .f32⟩
  | 3 => ⟨S16x8x2048, .f32⟩
  | 4 => ⟨S16x8x2048x1, .f32⟩
  | 5 => ⟨S16x8x2048x2048, .f32⟩
  | 6 => ⟨S16x8x2048x2048, .f32⟩
  | 7 => ⟨S16x8x2048x2048, .f32⟩
  | 8 => ⟨S_, .f32⟩
  | 9 => ⟨S16x8x2048, .f32⟩
  | 10 => ⟨S16x8x2048x1, .f32⟩
  | 11 => ⟨S16x8x2048x2048, .f32⟩
  | 12 => ⟨S16x8x2048x2048, .f32⟩
  | 13 => ⟨S16x8x64x2048, .f32⟩
  | 14 => ⟨S16x2048x8x64, .f32⟩
  | 15 => ⟨S32768x512, .f32⟩
  | _ => ⟨S32768x6144, .f32⟩

abbrev hbmTy (i : Nat) : BufTy := match i / 128 with
  | 0 => hbmTy0_0 i
  | 1 => hbmTy0_1 i
  | _ => ⟨S32768x6144, .f32⟩

abbrev bufTy : (tb : Table) → Fin (tcTables nBuf tb) → BufTy
  | .hbm, ⟨i, _⟩ => hbmTy i
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_0 : Ref sig .tc := ⟨.hbm, 42, rfl⟩
abbrev main_v18 : Ref sig .tc := ⟨.hbm, 43, rfl⟩
abbrev main_v19 : Ref sig .tc := ⟨.hbm, 44, rfl⟩
abbrev main_c_1 : Ref sig .tc := ⟨.hbm, 45, rfl⟩
abbrev main_c_2 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v20 : Ref sig .tc := ⟨.hbm, 52, rfl⟩
abbrev main_c_3 : Ref sig .tc := ⟨.hbm, 53, rfl⟩
abbrev main_v21 : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_5 : Ref sig .tc := ⟨.hbm, 60, rfl⟩
abbrev main_v26 : Ref sig .tc := ⟨.hbm, 61, rfl⟩
abbrev main_v27 : Ref sig .tc := ⟨.hbm, 62, rfl⟩
abbrev main_c_6 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_7 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_c : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_0 : Ref sig .tc := ⟨.hbm, 89, rfl⟩
abbrev main_call2_v12 : Ref sig .tc := ⟨.hbm, 90, rfl⟩
abbrev main_call2_v13 : Ref sig .tc := ⟨.hbm, 91, rfl⟩
abbrev main_v39 : Ref sig .tc := ⟨.hbm, 92, rfl⟩
abbrev main_c_8 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_c : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_0 : Ref sig .tc := ⟨.hbm, 107, rfl⟩
abbrev main_call3_v12 : Ref sig .tc := ⟨.hbm, 108, rfl⟩
abbrev main_call3_v13 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_c_9 : Ref sig .tc := ⟨.hbm, 114, rfl⟩
abbrev main_v44 : Ref sig .tc := ⟨.hbm, 115, rfl⟩
abbrev main_v45 : Ref sig .tc := ⟨.hbm, 116, rfl⟩
abbrev main_c_10 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_cst_11 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v50 : Ref sig .tc := ⟨.hbm, 126, rfl⟩
abbrev main_cst_12 : Ref sig .tc := ⟨.hbm, 127, rfl⟩
abbrev main_v51 : Ref sig .tc := ⟨.hbm, 128, rfl⟩
abbrev main_cst_13 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_cst_14 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩

abbrev nD : Nat := 1
abbrev τ : Topo := Topo.v7x

variable {F : FTy → Type} [FloatOps F]
-- ==== InprojKernel.lean ====
abbrev S32768x1024 : Shape := ⟨2, ![32768, 1024]⟩
abbrev S1024 : Shape := ⟨1, ![1024]⟩
abbrev S1024x6144 : Shape := ⟨2, ![1024, 6144]⟩
abbrev S1x1024 : Shape := ⟨2, ![1, 1024]⟩
abbrev S32768x6144 : Shape := ⟨2, ![32768, 6144]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S1x1024, .f32⟩
  | .hbm, ⟨4, _⟩ => ⟨S1024x6144, .bf16⟩
  | .hbm, ⟨5, _⟩ => ⟨S32768x6144, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![128, 6], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let c2_i32 : BitVec 32 := 2#32
  let v11 : BitVec 1 := Scalar.cmpi .eq arg1 c2_i32
  let v12 : BitVec 1 := Scalar.ori v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c3_i32 : BitVec 32 := 3#32
  let v15 : BitVec 1 := Scalar.cmpi .sge arg1 c3_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojKernelIdeal.lean ====
abbrev S32768x1024 : Shape := ⟨2, ![32768, 1024]⟩
abbrev S1024 : Shape := ⟨1, ![1024]⟩
abbrev S1024x6144 : Shape := ⟨2, ![1024, 6144]⟩
abbrev S1x1024 : Shape := ⟨2, ![1, 1024]⟩
abbrev S32768x6144 : Shape := ⟨2, ![32768, 6144]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S1x1024, .f32⟩
  | .hbm, ⟨4, _⟩ => ⟨S1024x6144, .bf16⟩
  | .hbm, ⟨5, _⟩ => ⟨S32768x6144, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![128, 6], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let c2_i32 : BitVec 32 := 2#32
  let v11 : BitVec 1 := Scalar.cmpi .eq arg1 c2_i32
  let v12 : BitVec 1 := Scalar.ori v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c3_i32 : BitVec 32 := 3#32
  let v15 : BitVec 1 := Scalar.cmpi .sge arg1 c3_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojReferenceIdeal.lean ====
abbrev S32768x1024 : Shape := ⟨2, ![32768, 1024]⟩
abbrev S1024 : Shape := ⟨1, ![1024]⟩
abbrev S1024x6144 : Shape := ⟨2, ![1024, 6144]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6144 : Shape := ⟨2, ![32768, 6144]⟩
abbrev S32768x2048 : Shape := ⟨2, ![32768, 2048]⟩
abbrev S32768x3072 : Shape := ⟨2, ![32768, 3072]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x6144, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x2048, .f32⟩
  | .hbm, ⟨39, _⟩ => ⟨S32768x3072, .f32⟩
  | .hbm, ⟨40, _⟩ => ⟨S32768x3072, .f32⟩
  | .hbm, ⟨41, _⟩ => ⟨S32768x3072, .f32⟩
  | .hbm, ⟨42, _⟩ => ⟨S_, .f32⟩
  | .hbm, ⟨43, _⟩ => ⟨S32768x3072, .f32⟩
  | .hbm, ⟨44, _⟩ => ⟨S32768x3072, .f32⟩
  | .hbm, ⟨45, _⟩ => ⟨S_, .f32⟩
  | .hbm, ⟨46, _⟩ => ⟨S32768x3072, .f32⟩
  | .hbm, ⟨47, _⟩ => ⟨S32768x3072, .f32⟩
  | .hbm, ⟨48, _⟩ => ⟨S32768x6144, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MergeKernel.lean ====
abbrev S32768x512 : Shape := ⟨2, ![32768, 512]⟩
abbrev S32768x6144 : Shape := ⟨2, ![32768, 6144]⟩
abbrev S32768x1024 : Shape := ⟨2, ![32768, 1024]⟩
abbrev S3x512x1024 : Shape := ⟨3, ![3, 512, 1024]⟩
abbrev S1024x1024 : Shape := ⟨2, ![1024, 1024]⟩
abbrev S256x512 : Shape := ⟨2, ![256, 512]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 10
  | .vmem => 18
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x6144, .f32⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S32768x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S3x512x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S32768x512 : Shape := ⟨2, ![32768, 512]⟩
abbrev S32768x6144 : Shape := ⟨2, ![32768, 6144]⟩
abbrev S32768x1024 : Shape := ⟨2, ![32768, 1024]⟩
abbrev S3x512x1024 : Shape := ⟨3, ![3, 512, 1024]⟩
abbrev S1024x1024 : Shape := ⟨2, ![1024, 1024]⟩
abbrev S32768x3072 : Shape := ⟨2, ![32768, 3072]⟩
abbrev S32768x3x1024 : Shape := ⟨3, ![32768, 3, 1024]⟩
abbrev S32768x1x512 : Shape := ⟨3, ![32768, 1, 512]⟩
abbrev S32768x3x512 : Shape := ⟨3, ![32768, 3, 512]⟩
abbrev S3x1024x32768 : Shape := ⟨3, ![3, 1024, 32768]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x6144, .f32⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S32768x3072, .f32⟩
  | .hbm, ⟨8, _⟩ => ⟨S32768x3x1024, .f32⟩
  | .hbm, ⟨9, _⟩ => ⟨S32768x1x512, .f32⟩
  | .hbm, ⟨10, _⟩ => ⟨S32768x1x512, .f32⟩
  | .hbm, ⟨11, _⟩ => ⟨S32768x1x512, .f32⟩
  | .hbm, ⟨12, _⟩ => ⟨S32768x3x512, .f32⟩
  | .hbm, ⟨13, _⟩ => ⟨S3x1024x32768, .f32⟩
  | .hbm, ⟨14, _⟩ => ⟨S32768x3x1024, .f32⟩
  | .hbm, ⟨15, _⟩ => ⟨S32768x3x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== PleKernel.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleKernelIdeal.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleReferenceIdeal.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== GmlpKernel.lean ====
abbrev S32768x6144 : Shape := ⟨2, ![32768, 6144]⟩
abbrev S512 : Shape := ⟨1, ![512]⟩
abbrev S4x128x128 : Shape := ⟨3, ![4, 128, 128]⟩
abbrev S4x128 : Shape := ⟨2, ![4, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S32768x512 : Shape := ⟨2, ![32768, 512]⟩

abbrev nBuf : Space → Nat
  | .hbm => 60
  | .vmem => 10
  | .smem => 0
  | _ => 0

abbrev bufTy : (tb : Table) → Fin (tcTables nBuf tb) → BufTy
  | .hbm, ⟨0, _⟩ => ⟨S32768x6144, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S128, .i32⟩
  | .hbm, ⟨6, _⟩ => ⟨S1x128, .i32⟩
  | .hbm, ⟨7, _⟩ => ⟨S_, .i32⟩
  | .hbm, ⟨8, _⟩ => ⟨S_, .i32⟩
  | .hbm, ⟨9, _⟩ => ⟨S1x128, .i32⟩
  | .hbm, ⟨10, _⟩ => ⟨S1x128, .i32⟩
  | .hbm, ⟨11, _⟩ => ⟨S1x128, .i32⟩
  | .hbm, ⟨12, _⟩ => ⟨S_, .i32⟩
  | .hbm, ⟨13, _⟩ => ⟨S1x128, .i32⟩
  | .hbm, ⟨14, _⟩ => ⟨S1x128, .i1⟩
  | .hbm, ⟨15, _⟩ => ⟨S1x128, .i32⟩
  | .hbm, ⟨16, _⟩ => ⟨S1x128, .i32⟩
  | .hbm, ⟨17, _⟩ => ⟨S_, .i32⟩
  | .hbm, ⟨18, _⟩ => ⟨S1x128, .i32⟩
  | .hbm, ⟨19, _⟩ => ⟨S1x128, .i1⟩
  | .hbm, ⟨20, _⟩ => ⟨S1x128, .i1⟩
  | .hbm, ⟨21, _⟩ => ⟨S_, .i32⟩
  | .hbm, ⟨22, _⟩ => ⟨S1x128, .i32⟩
  | .hbm, ⟨23, _⟩ => ⟨S1x128, .i32⟩
  | .hbm, ⟨24, _⟩ => ⟨S1x128, .i32⟩
  | .hbm, ⟨25, _⟩ => ⟨S128x1, .i32⟩
  | .hbm, ⟨26, _⟩ => ⟨S_, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x1, .i32⟩
  | .hbm, ⟨31, _⟩ => ⟨S_, .i32⟩
  | .hbm, ⟨32, _⟩ => ⟨S128x1, .i32⟩
  | .hbm, ⟨33, _⟩ => ⟨S128x1, .i1⟩
  | .hbm, ⟨34, _⟩ => ⟨S128x1, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i1⟩
  | .hbm, ⟨39, _⟩ => ⟨S128x1, .i1⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x1, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S1x128x128, .i1⟩
  | .hbm, ⟨48, _⟩ => ⟨S_, .f32⟩
  | .hbm, ⟨49, _⟩ => ⟨S_, .f32⟩
  | .hbm, ⟨50, _⟩ => ⟨S4x128x128, .i1⟩
  | .hbm, ⟨51, _⟩ => ⟨S4x128x128, .f32⟩
  | .hbm, ⟨52, _⟩ => ⟨S4x128x128, .f32⟩
  | .hbm, ⟨53, _⟩ => ⟨S4x128x128, .bf16⟩
  | .hbm, ⟨54, _⟩ => ⟨S128x4, .f32⟩
  | .hbm, ⟨55, _⟩ => ⟨S128x4x128, .f32⟩
  | .hbm, ⟨56, _⟩ => ⟨S128x512, .f32⟩
  | .hbm, ⟨57, _⟩ => ⟨S1x512, .f32⟩
  | .hbm, ⟨58, _⟩ => ⟨S1x512, .f32⟩
  | .hbm, ⟨59, _⟩ => ⟨S32768x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S4x128x128, .bf16⟩
  | .local _ .vmem, ⟨7, _⟩ => ⟨S128x512, .f32⟩
  | .local _ .vmem, ⟨8, _⟩ => ⟨S128x512, .f32⟩
  | .local _ .vmem, ⟨9, _⟩ => ⟨S128x512, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpReferenceIdeal.lean ====
abbrev S32768x6144 : Shape := ⟨2, ![32768, 6144]⟩
abbrev S512 : Shape := ⟨1, ![512]⟩
abbrev S4x128x128 : Shape := ⟨3, ![4, 128, 128]⟩
abbrev S4x128 : Shape := ⟨2, ![4, 128]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S256x128x4x128 : Shape := ⟨4, ![256, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x256x128x128 : Shape := ⟨4, ![4, 256, 128, 128]⟩
abbrev S128x4 : Shape := ⟨2, ![128, 4]⟩
abbrev S1x128x4x1 : Shape := ⟨4, ![1, 128, 4, 1]⟩

abbrev nBuf : Space → Nat
  | .hbm => 91
  | .vmem => 0
  | .smem => 0
  | _ => 0

abbrev bufTy : (tb : Table) → Fin (tcTables nBuf tb) → BufTy
  | .hbm, ⟨0, _⟩ => ⟨S32768x6144, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S32768x512, .f32⟩
  | .hbm, ⟨6, _⟩ => ⟨S32768x512, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x512, .f32⟩
  | .hbm, ⟨27, _⟩ => ⟨S32768x512, .f32⟩
  | .hbm, ⟨28, _⟩ => ⟨S1x512, .f32⟩
  | .hbm, ⟨29, _⟩ => ⟨S32768x512, .f32⟩
  | .hbm, ⟨30, _⟩ => ⟨S32768x512, .f32⟩
  | .hbm, ⟨31, _⟩ => ⟨S1x512, .f32⟩
  | .hbm, ⟨32, _⟩ => ⟨S32768x512, .f32⟩
  | .hbm, ⟨33, _⟩ => ⟨S32768x512, .f32⟩
  | .hbm, ⟨34, _⟩ => ⟨S256x128x4x128, .f32⟩
  | .hbm, ⟨35, _⟩ => ⟨S128, .i32⟩
  | .hbm, ⟨36, _⟩ => ⟨S1x128, .i32⟩
  | .hbm, ⟨37, _⟩ => ⟨S_, .i32⟩
  | .hbm, ⟨38, _⟩ => ⟨S_, .i32⟩
  | .hbm, ⟨39, _⟩ => ⟨S1x128, .i32⟩
  | .hbm, ⟨40, _⟩ => ⟨S1x128, .i32⟩
  | .hbm, ⟨41, _⟩ => ⟨S1x128, .i32⟩
  | .hbm, ⟨42, _⟩ => ⟨S_, .i32⟩
  | .hbm, ⟨43, _⟩ => ⟨S1x128, .i32⟩
  | .hbm, ⟨44, _⟩ => ⟨S1x128, .i1⟩
  | .hbm, ⟨45, _⟩ => ⟨S1x128, .i32⟩
  | .hbm, ⟨46, _⟩ => ⟨S1x128, .i32⟩
  | .hbm, ⟨47, _⟩ => ⟨S_, .i32⟩
  | .hbm, ⟨48, _⟩ => ⟨S1x128, .i32⟩
  | .hbm, ⟨49, _⟩ => ⟨S1x128, .i1⟩
  | .hbm, ⟨50, _⟩ => ⟨S1x128, .i1⟩
  | .hbm, ⟨51, _⟩ => ⟨S_, .i32⟩
  | .hbm, ⟨52, _⟩ => ⟨S1x128, .i32⟩
  | .hbm, ⟨53, _⟩ => ⟨S1x128, .i32⟩
  | .hbm, ⟨54, _⟩ => ⟨S1x128, .i32⟩
  | .hbm, ⟨55, _⟩ => ⟨S128x1, .i32⟩
  | .hbm, ⟨56, _⟩ => ⟨S_, .i32⟩
  | .hbm, ⟨57, _⟩ => ⟨S_, .i32⟩
  | .hbm, ⟨58, _⟩ => ⟨S128x1, .i32⟩
  | .hbm, ⟨59, _⟩ => ⟨S128x1, .i32⟩
  | .hbm, ⟨60, _⟩ => ⟨S128x1, .i32⟩
  | .hbm, ⟨61, _⟩ => ⟨S_, .i32⟩
  | .hbm, ⟨62, _⟩ => ⟨S128x1, .i32⟩
  | .hbm, ⟨63, _⟩ => ⟨S128x1, .i1⟩
  | .hbm, ⟨64, _⟩ => ⟨S128x1, .i32⟩
  | .hbm, ⟨65, _⟩ => ⟨S128x1, .i32⟩
  | .hbm, ⟨66, _⟩ => ⟨S_, .i32⟩
  | .hbm, ⟨67, _⟩ => ⟨S128x1, .i32⟩
  | .hbm, ⟨68, _⟩ => ⟨S128x1, .i1⟩
  | .hbm, ⟨69, _⟩ => ⟨S128x1, .i1⟩
  | .hbm, ⟨70, _⟩ => ⟨S_, .i32⟩
  | .hbm, ⟨71, _⟩ => ⟨S128x1, .i32⟩
  | .hbm, ⟨72, _⟩ => ⟨S128x1, .i32⟩
  | .hbm, ⟨73, _⟩ => ⟨S128x1, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S1x128x128, .i1⟩
  | .hbm, ⟨78, _⟩ => ⟨S_, .f32⟩
  | .hbm, ⟨79, _⟩ => ⟨S_, .f32⟩
  | .hbm, ⟨80, _⟩ => ⟨S4x128x128, .i1⟩
  | .hbm, ⟨81, _⟩ => ⟨S4x128x128, .f32⟩
  | .hbm, ⟨82, _⟩ => ⟨S4x128x128, .f32⟩
  | .hbm, ⟨83, _⟩ => ⟨S4x256x128x128, .f32⟩
  | .hbm, ⟨84, _⟩ => ⟨S256x128x4x128, .f32⟩
  | .hbm, ⟨85, _⟩ => ⟨S128x4, .f32⟩
  | .hbm, ⟨86, _⟩ => ⟨S1x128x4x1, .f32⟩
  | .hbm, ⟨87, _⟩ => ⟨S256x128x4x128, .f32⟩
  | .hbm, ⟨88, _⟩ => ⟨S256x128x4x128, .f32⟩
  | .hbm, ⟨89, _⟩ => ⟨S32768x512, .f32⟩
  | .hbm, ⟨90, _⟩ => ⟨S32768x512, .f32⟩
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_5 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩

abbrev nD : Nat := 1
abbrev τ : Topo := Topo.v7x

variable {F : FTy → Type} [FloatOps F]
-- ==== SampleInprojKernel.lean ====
abbrev S256x1024 : Shape := ⟨2, ![256, 1024]⟩
abbrev S1024 : Shape := ⟨1, ![1024]⟩
abbrev S1024x6144 : Shape := ⟨2, ![1024, 6144]⟩
abbrev S1x1024 : Shape := ⟨2, ![1, 1024]⟩
abbrev S256x6144 : Shape := ⟨2, ![256, 6144]⟩
abbrev S1024x1024 : Shape := ⟨2, ![1024, 1024]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x6144, .f32⟩
  | .hbm, ⟨3, _⟩ => ⟨S1x1024, .f32⟩
  | .hbm, ⟨4, _⟩ => ⟨S1024x6144, .bf16⟩
  | .hbm, ⟨5, _⟩ => ⟨S256x6144, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let c2_i32 : BitVec 32 := 2#32
  let v11 : BitVec 1 := Scalar.cmpi .eq arg1 c2_i32
  let v12 : BitVec 1 := Scalar.ori v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c3_i32 : BitVec 32 := 3#32
  let v15 : BitVec 1 := Scalar.cmpi .sge arg1 c3_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleInprojReferenceIdeal.lean ====
abbrev S256x1024 : Shape := ⟨2, ![256, 1024]⟩
abbrev S1024 : Shape := ⟨1, ![1024]⟩
abbrev S1024x6144 : Shape := ⟨2, ![1024, 6144]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x6144 : Shape := ⟨2, ![256, 6144]⟩
abbrev S256x2048 : Shape := ⟨2, ![256, 2048]⟩
abbrev S256x3072 : Shape := ⟨2, ![256, 3072]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x6144, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x6144, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x2048, .f32⟩
  | .hbm, ⟨39, _⟩ => ⟨S256x3072, .f32⟩
  | .hbm, ⟨40, _⟩ => ⟨S256x3072, .f32⟩
  | .hbm, ⟨41, _⟩ => ⟨S256x3072, .f32⟩
  | .hbm, ⟨42, _⟩ => ⟨S_, .f32⟩
  | .hbm, ⟨43, _⟩ => ⟨S256x3072, .f32⟩
  | .hbm, ⟨44, _⟩ => ⟨S256x3072, .f32⟩
  | .hbm, ⟨45, _⟩ => ⟨S_, .f32⟩
  | .hbm, ⟨46, _⟩ => ⟨S256x3072, .f32⟩
  | .hbm, ⟨47, _⟩ => ⟨S256x3072, .f32⟩
  | .hbm, ⟨48, _⟩ => ⟨S256x6144, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== SamplePleKernel.lean ====
abbrev S256x1024 : Shape := ⟨2, ![256, 1024]⟩
abbrev S256x256 : Shape := ⟨2, ![256, 256]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 12
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S1x1024, .f32⟩
  | .local _ .vmem, ⟨4, _⟩ => ⟨S1024x1024, .bf16⟩
  | .local _ .vmem, ⟨5, _⟩ => ⟨S256x1024, .bf16⟩
  | .local _ .vmem, ⟨6, _⟩ => ⟨S1x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SamplePleReferenceIdeal.lean ====
abbrev S256x1024 : Shape := ⟨2, ![256, 1024]⟩
abbrev S256x256 : Shape := ⟨2, ![256, 256]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x1024, .f32⟩
  | .hbm, ⟨48, _⟩ => ⟨S256x1024, .f32⟩
  | .hbm, ⟨49, _⟩ => ⟨S1x1024, .f32⟩
  | .hbm, ⟨50, _⟩ => ⟨S256x1024, .f32⟩
  | .hbm, ⟨51, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== SampleGmlpKernel.lean ====
abbrev S256x6144 : Shape := ⟨2, ![256, 6144]⟩
abbrev S512 : Shape := ⟨1, ![512]⟩
abbrev S4x128x128 : Shape := ⟨3, ![4, 128, 128]⟩
abbrev S4x128 : Shape := ⟨2, ![4, 128]⟩
abbrev S8x8 : Shape := ⟨2, ![8, 8]⟩
abbrev S_ : Shape := ⟨0, ![]⟩
abbrev S1x16x16 : Shape := ⟨3, ![1, 16, 16]⟩
abbrev S16x16 : Shape := ⟨2, ![16, 16]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S1x128x128 : Shape := ⟨3, ![1, 128, 128]⟩
abbrev S4x16 : Shape := ⟨2, ![4, 16]⟩
abbrev S16x4 : Shape := ⟨2, ![16, 4]⟩
abbrev S16x4x128 : Shape := ⟨3, ![16, 4, 128]⟩
abbrev S16x512 : Shape := ⟨2, ![16, 512]⟩
abbrev S1x16x1x512 : Shape := ⟨4, ![1, 16, 1, 512]⟩
abbrev S8x16x1x512 : Shape := ⟨4, ![8, 16, 1, 512]⟩
abbrev S128x512 : Shape := ⟨2, ![128, 512]⟩
abbrev S1x512 : Shape := ⟨2, ![1, 512]⟩
abbrev S256x512 : Shape := ⟨2, ![256, 512]⟩
abbrev S128 : Shape := ⟨1, ![128]⟩
abbrev S128x1 : Shape := ⟨2, ![128, 1]⟩

abbrev nBuf : Space → Nat
  | .hbm => 82
  | .vmem => 12
  | .smem => 0
  | _ => 0

abbrev bufTy : (tb : Table) → Fin (tcTables nBuf tb) → BufTy
  | .hbm, ⟨0, _⟩ => ⟨S256x6144, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S1x16x16, .f32⟩
  | .hbm, ⟨13, _⟩ => ⟨S16x16, .f32⟩
  | .hbm, ⟨14, _⟩ => ⟨S8x1x8x1, .f32⟩
  | .hbm, ⟨15, _⟩ => ⟨S1x16x1x16, .f32⟩
  | .hbm, ⟨16, _⟩ => ⟨S8x16x8x16, .f32⟩
  | .hbm, ⟨17, _⟩ => ⟨S8x16x8x16, .f32⟩
  | .hbm, ⟨18, _⟩ => ⟨S8x16x8x16, .f32⟩
  | .hbm, ⟨19, _⟩ => ⟨S128x128, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S1x16x16, .f32⟩
  | .hbm, ⟨28, _⟩ => ⟨S16x16, .f32⟩
  | .hbm, ⟨29, _⟩ => ⟨S8x1x8x1, .f32⟩
  | .hbm, ⟨30, _⟩ => ⟨S1x16x1x16, .f32⟩
  | .hbm, ⟨31, _⟩ => ⟨S8x16x8x16, .f32⟩
  | .hbm, ⟨32, _⟩ => ⟨S8x16x8x16, .f32⟩
  | .hbm, ⟨33, _⟩ => ⟨S8x16x8x16, .f32⟩
  | .hbm, ⟨34, _⟩ => ⟨S128x128, .f32⟩
  | .hbm, ⟨35, _⟩ => ⟨S8x8, .i32⟩
  | .hbm, ⟨36, _⟩ => ⟨S8x8, .i32⟩
  | .hbm, ⟨37, _⟩ => ⟨S_, .i32⟩
  | .hbm, ⟨38, _⟩ => ⟨S8x8, .i32⟩
  | .hbm, ⟨39, _⟩ => ⟨S8x8, .i32⟩
  | .hbm, ⟨40, _⟩ => ⟨S8x8, .i1⟩
  | .hbm, ⟨41, _⟩ => ⟨S8x8, .f32⟩
  | .hbm, ⟨42, _⟩ => ⟨S1x16x16, .f32⟩
  | .hbm, ⟨43, _⟩ => ⟨S16x16, .f32⟩
  | .hbm, ⟨44, _⟩ => ⟨S8x1x8x1, .f32⟩
  | .hbm, ⟨45, _⟩ => ⟨S1x16x1x16, .f32⟩
  | .hbm, ⟨46, _⟩ => ⟨S8x16x8x16, .f32⟩
  | .hbm, ⟨47, _⟩ => ⟨S8x16x8x16, .f32⟩
  | .hbm, ⟨48, _⟩ => ⟨S8x16x8x16, .f32⟩
  | .hbm, ⟨49, _⟩ => ⟨S128x128, .f32⟩
  | .hbm, ⟨50, _⟩ => ⟨S8x8, .i32⟩
  | .hbm, ⟨51, _⟩ => ⟨S8x8, .i32⟩
  | .hbm, ⟨52, _⟩ => ⟨S_, .i32⟩
  | .hbm, ⟨53, _⟩ => ⟨S8x8, .i32⟩
  | .hbm, ⟨54, _⟩ => ⟨S8x8, .i32⟩
  | .hbm, ⟨55, _⟩ => ⟨S8x8, .i1⟩
  | .hbm, ⟨56, _⟩ => ⟨S8x8, .f32⟩
  | .hbm, ⟨57, _⟩ => ⟨S1x16x16, .f32⟩
  | .hbm, ⟨58, _⟩ => ⟨S16x16, .f32⟩
  | .hbm, ⟨59, _⟩ => ⟨S8x1x8x1, .f32⟩
  | .hbm, ⟨60, _⟩ => ⟨S1x16x1x16, .f32⟩
  | .hbm, ⟨61, _⟩ => ⟨S8x16x8x16, .f32⟩
  | .hbm, ⟨62, _⟩ => ⟨S8x16x8x16, .f32⟩
  | .hbm, ⟨63, _⟩ => ⟨S8x16x8x16, .f32⟩
  | .hbm, ⟨64, _⟩ => ⟨S128x128, .f32⟩
  | .hbm, ⟨65, _⟩ => ⟨S1x128x128, .f32⟩
  | .hbm, ⟨66, _⟩ => ⟨S1x128x128, .f32⟩
  | .hbm, ⟨67, _⟩ => ⟨S1x128x128, .f32⟩
  | .hbm, ⟨68, _⟩ => ⟨S1x128x128, .f32⟩
  | .hbm, ⟨69, _⟩ => ⟨S4x128x128, .f32⟩
  | .hbm, ⟨70, _⟩ => ⟨S4x128x128, .bf16⟩
  | .hbm, ⟨71, _⟩ => ⟨S4x16, .f32⟩
  | .hbm, ⟨72, _⟩ => ⟨S16x4, .f32⟩
  | .hbm, ⟨73, _⟩ => ⟨S16x4x128, .f32⟩
  | .hbm, ⟨74, _⟩ => ⟨S16x512, .f32⟩
  | .hbm, ⟨75, _⟩ => ⟨S1x16x1x512, .f32⟩
  | .hbm, ⟨76, _⟩ => ⟨S8x16x1x512, .f32⟩
  | .hbm, ⟨77, _⟩ => ⟨S128x512, .f32⟩
  | .hbm, ⟨78, _⟩ => ⟨S1x512, .f32⟩
  | .hbm, ⟨79, _⟩ => ⟨S1x512, .f32⟩
  | .hbm, ⟨80, _⟩ => ⟨S256x512, .f32⟩
  | .hbm, ⟨81, _⟩ => ⟨S256x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S4x128x128, .bf16⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | _, _ => ⟨S256x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51_0 : Ref sig .tc := ⟨.hbm, 80, rfl⟩
abbrev main_v51_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SampleGmlpReferenceIdeal.lean ====
abbrev S256x6144 : Shape := ⟨2, ![256, 6144]⟩
abbrev S512 : Shape := ⟨1, ![512]⟩
abbrev S4x128x128 : Shape := ⟨3, ![4, 128, 128]⟩
abbrev S4x128 : Shape := ⟨2, ![4, 128]⟩
abbrev S256x512 : Shape := ⟨2, ![256, 512]⟩
abbrev S_ : Shape := ⟨0, ![]⟩
abbrev S256 : Shape := ⟨1, ![256]⟩
abbrev S256x1 : Shape := ⟨2, ![256, 1]⟩
abbrev S1x512 : Shape := ⟨2, ![1, 512]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S1x16x16 : Shape := ⟨3, ![1, 16, 16]⟩
abbrev S4x16x16 : Shape := ⟨3, ![4, 16, 16]⟩
abbrev S16x16x4x128 : Shape := ⟨4, ![16, 16, 4, 128]⟩
abbrev S4x16x128x16 : Shape := ⟨4, ![4, 16, 128, 16]⟩
abbrev S4x16 : Shape := ⟨2, ![4, 16]⟩
abbrev S16x4 : Shape := ⟨2, ![16, 4]⟩
abbrev S1x16x4x1 : Shape := ⟨4, ![1, 16, 4, 1]⟩

abbrev nBuf : Space → Nat
  | .hbm => 93
  | .vmem => 0
  | .smem => 0
  | _ => 0

abbrev bufTy : (tb : Table) → Fin (tcTables nBuf tb) → BufTy
  | .hbm, ⟨0, _⟩ => ⟨S256x6144, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x512, .f32⟩
  | .hbm, ⟨14, _⟩ => ⟨S256x512, .f32⟩
  | .hbm, ⟨15, _⟩ => ⟨S256x512, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S256x512, .f32⟩
  | .hbm, ⟨27, _⟩ => ⟨S256x512, .f32⟩
  | .hbm, ⟨28, _⟩ => ⟨S1x512, .f32⟩
  | .hbm, ⟨29, _⟩ => ⟨S256x512, .f32⟩
  | .hbm, ⟨30, _⟩ => ⟨S256x512, .f32⟩
  | .hbm, ⟨31, _⟩ => ⟨S1x512, .f32⟩
  | .hbm, ⟨32, _⟩ => ⟨S256x512, .f32⟩
  | .hbm, ⟨33, _⟩ => ⟨S256x512, .f32⟩
  | .hbm, ⟨34, _⟩ => ⟨S16, .i32⟩
  | .hbm, ⟨35, _⟩ => ⟨S1x16, .i32⟩
  | .hbm, ⟨36, _⟩ => ⟨S_, .i32⟩
  | .hbm, ⟨37, _⟩ => ⟨S_, .i32⟩
  | .hbm, ⟨38, _⟩ => ⟨S1x16, .i32⟩
  | .hbm, ⟨39, _⟩ => ⟨S1x16, .i32⟩
  | .hbm, ⟨40, _⟩ => ⟨S1x16, .i32⟩
  | .hbm, ⟨41, _⟩ => ⟨S_, .i32⟩
  | .hbm, ⟨42, _⟩ => ⟨S1x16, .i32⟩
  | .hbm, ⟨43, _⟩ => ⟨S1x16, .i1⟩
  | .hbm, ⟨44, _⟩ => ⟨S1x16, .i32⟩
  | .hbm, ⟨45, _⟩ => ⟨S1x16, .i32⟩
  | .hbm, ⟨46, _⟩ => ⟨S_, .i32⟩
  | .hbm, ⟨47, _⟩ => ⟨S1x16, .i32⟩
  | .hbm, ⟨48, _⟩ => ⟨S1x16, .i1⟩
  | .hbm, ⟨49, _⟩ => ⟨S1x16, .i1⟩
  | .hbm, ⟨50, _⟩ => ⟨S_, .i32⟩
  | .hbm, ⟨51, _⟩ => ⟨S1x16, .i32⟩
  | .hbm, ⟨52, _⟩ => ⟨S1x16, .i32⟩
  | .hbm, ⟨53, _⟩ => ⟨S1x16, .i32⟩
  | .hbm, ⟨54, _⟩ => ⟨S16x1, .i32⟩
  | .hbm, ⟨55, _⟩ => ⟨S_, .i32⟩
  | .hbm, ⟨56, _⟩ => ⟨S_, .i32⟩
  | .hbm, ⟨57, _⟩ => ⟨S16x1, .i32⟩
  | .hbm, ⟨58, _⟩ => ⟨S16x1, .i32⟩
  | .hbm, ⟨59, _⟩ => ⟨S16x1, .i32⟩
  | .hbm, ⟨60, _⟩ => ⟨S_, .i32⟩
  | .hbm, ⟨61, _⟩ => ⟨S16x1, .i32⟩
  | .hbm, ⟨62, _⟩ => ⟨S16x1, .i1⟩
  | .hbm, ⟨63, _⟩ => ⟨S16x1, .i32⟩
  | .hbm, ⟨64, _⟩ => ⟨S16x1, .i32⟩
  | .hbm, ⟨65, _⟩ => ⟨S_, .i32⟩
  | .hbm, ⟨66, _⟩ => ⟨S16x1, .i32⟩
  | .hbm, ⟨67, _⟩ => ⟨S16x1, .i1⟩
  | .hbm, ⟨68, _⟩ => ⟨S16x1, .i1⟩
  | .hbm, ⟨69, _⟩ => ⟨S_, .i32⟩
  | .hbm, ⟨70, _⟩ => ⟨S16x1, .i32⟩
  | .hbm, ⟨71, _⟩ => ⟨S16x1, .i32⟩
  | .hbm, ⟨72, _⟩ => ⟨S16x1, .i32⟩
  | .hbm, ⟨73, _⟩ => ⟨S16x16, .i32⟩
  | .hbm, ⟨74, _⟩ => ⟨S16x16, .i32⟩
  | .hbm, ⟨75, _⟩ => ⟨S16x16, .i1⟩
  | .hbm, ⟨76, _⟩ => ⟨S1x16x16, .i1⟩
  | .hbm, ⟨77, _⟩ => ⟨S4x16x16, .f32⟩
  | .hbm, ⟨78, _⟩ => ⟨S_, .f32⟩
  | .hbm, ⟨79, _⟩ => ⟨S_, .f32⟩
  | .hbm, ⟨80, _⟩ => ⟨S4x16x16, .i1⟩
  | .hbm, ⟨81, _⟩ => ⟨S4x16x16, .f32⟩
  | .hbm, ⟨82, _⟩ => ⟨S4x16x16, .f32⟩
  | .hbm, ⟨83, _⟩ => ⟨S16x16x4x128, .f32⟩
  | .hbm, ⟨84, _⟩ => ⟨S4x16x128x16, .f32⟩
  | .hbm, ⟨85, _⟩ => ⟨S16x16x4x128, .f32⟩
  | .hbm, ⟨86, _⟩ => ⟨S4x16, .f32⟩
  | .hbm, ⟨87, _⟩ => ⟨S16x4, .f32⟩
  | .hbm, ⟨88, _⟩ => ⟨S1x16x4x1, .f32⟩
  | .hbm, ⟨89, _⟩ => ⟨S16x16x4x128, .f32⟩
  | .hbm, ⟨90, _⟩ => ⟨S16x16x4x128, .f32⟩
  | .hbm, ⟨91, _⟩ => ⟨S256x512, .f32⟩
  | .hbm, ⟨92, _⟩ => ⟨S256x512, .f32⟩
  | _, _ => ⟨S256x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_5 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩

abbrev nD : Nat := 1
abbrev τ : Topo := Topo.v7x

variable {F : FTy → Type} [FloatOps F]
-- ==== Proof.AttnMath.lean ====
/- One row of softmax attention over the extended reals, and the window of keys that a row sees. -/
module

public import Idealize.ShloMosaic.Lib.Pointwise

@[expose] public section

/-!
One row of softmax attention over the extended reals.

`early` divides each weight by the weights' sum and then mixes the values, as the reference does;
`late` mixes the values with the undivided weights and divides once at the end, as the kernel does.
`window` says that a window holding every key that is not masked gives the same row as the whole
sequence; `late_eq_early` says that the two orders agree as soon as no score is `⊤` and one score is
not `⊥`.
-/

open Idealize.ShloMosaic

namespace Cert.AttnMath

noncomputable section

/-- The greatest score of a row. -/
def peak {n : ℕ} (s : Fin n → EReal) : EReal := Finset.univ.fold max ⊥ s

/-- The weight of one key before the division. -/
def weight {n : ℕ} (s : Fin n → EReal) (j : Fin n) : EReal := Ideal.exp (s j - peak s)

/-- The values mixed first, and the mix divided by the weights' sum. -/
def late {n : ℕ} (s v : Fin n → EReal) : EReal :=
  Ideal.div (∑ w, weight s w * v w) (∑ w, weight s w)

/-- Each weight divided by the weights' sum, and the values mixed last. -/
def early {n : ℕ} (s v : Fin n → EReal) : EReal :=
  ∑ j, Ideal.div (weight s j) (∑ k, weight s k) * v j

theorem peak_eq_sup {n : ℕ} (s : Fin n → EReal) : peak s = Finset.univ.sup s := rfl

theorem le_peak {n : ℕ} (s : Fin n → EReal) (j : Fin n) : s j ≤ peak s :=
  Finset.le_sup (f := s) (Finset.mem_univ j)

theorem peak_le {n : ℕ} {s : Fin n → EReal} {a : EReal} (h : ∀ j, s j ≤ a) : peak s ≤ a :=
  Finset.sup_le (f := s) fun j _ => h j

theorem weight_of_bot {n : ℕ} {s : Fin n → EReal} {j : Fin n} (h : s j = ⊥) : weight s j = 0 := by
  rw [weight, h, EReal.bot_sub, Ideal.exp_bot]

/-- A sum over a window is the sum over the whole when what either leaves out is zero. -/
theorem sum_window {n k : ℕ} {f : Fin n → EReal} {g : Fin k → EReal} {ok : Fin n → Prop}
    {pos : Fin n → Fin k} (inj : ∀ a b, ok a → ok b → pos a = pos b → a = b)
    (hf : ∀ a, ok a → f a = g (pos a)) (bad : ∀ a, ¬ ok a → f a = 0)
    (rest : ∀ j, (∀ a, ok a → pos a ≠ j) → g j = 0) : ∑ a, f a = ∑ j, g j := by
  classical
  rw [← Finset.sum_filter_add_sum_filter_not Finset.univ ok f,
    Finset.sum_eq_zero (s := Finset.univ.filter fun a => ¬ ok a) (by
      intro a ha
      exact bad a (Finset.mem_filter.mp ha).2), add_zero]
  rw [← Finset.sum_subset (Finset.subset_univ ((Finset.univ.filter ok).image pos)) (by
    intro j _ hj
    refine rest j fun a ha e => hj ?_
    exact Finset.mem_image.mpr ⟨a, Finset.mem_filter.mpr ⟨Finset.mem_univ a, ha⟩, e⟩)]
  rw [Finset.sum_image (by
    intro a ha b hb e
    exact inj a b (Finset.mem_filter.mp ha).2 (Finset.mem_filter.mp hb).2 e)]
  exact Finset.sum_congr rfl fun a ha => hf a (Finset.mem_filter.mp ha).2

/-- A window that holds every key with a score above `⊥` gives the same row as all the keys. -/
theorem window {n k : ℕ} {s v : Fin n → EReal} {S V : Fin k → EReal} (ok : Fin n → Prop)
    (pos : Fin n → Fin k) (inj : ∀ a b, ok a → ok b → pos a = pos b → a = b)
    (hs : ∀ a, ok a → s a = S (pos a)) (hv : ∀ a, ok a → v a = V (pos a))
    (bad : ∀ a, ¬ ok a → s a = ⊥) (rest : ∀ j, (∀ a, ok a → pos a ≠ j) → S j = ⊥) :
    late s v = late S V := by
  have hp : peak s = peak S := by
    apply le_antisymm
    · refine peak_le fun a => ?_
      by_cases h : ok a
      · rw [hs a h]
        exact le_peak S _
      · rw [bad a h]
        exact bot_le
    · refine peak_le fun j => ?_
      by_cases h : ∃ a, ok a ∧ pos a = j
      · obtain ⟨a, ha, rfl⟩ := h
        rw [← hs a ha]
        exact le_peak s a
      · rw [rest j fun a ha e => h ⟨a, ha, e⟩]
        exact bot_le
  have hw : ∀ a, ok a → weight s a = weight S (pos a) := fun a ha => by
    rw [weight, weight, hs a ha, hp]
  have h1 : ∑ a, weight s a * v a = ∑ j, weight S j * V j :=
    sum_window inj (fun a ha => by rw [hw a ha, hv a ha])
      (fun a ha => by rw [weight_of_bot (bad a ha), zero_mul])
      (fun j hj => by rw [weight_of_bot (rest j hj), zero_mul])
  have h2 : ∑ a, weight s a = ∑ j, weight S j :=
    sum_window inj hw (fun a ha => weight_of_bot (bad a ha)) fun j hj => weight_of_bot (rest j hj)
  rw [late, late, h1, h2]

/-- A real factor that is not negative goes into a sum of extended reals. -/
theorem sum_mul_coe {ι : Type*} (t : Finset ι) (f : ι → EReal) {c : ℝ} (hc : 0 ≤ c) :
    (∑ i ∈ t, f i) * (c : EReal) = ∑ i ∈ t, f i * (c : EReal) := by
  classical
  induction t using Finset.induction_on with
  | empty => rw [Finset.sum_empty, Finset.sum_empty, zero_mul]
  | insert i t hi ih =>
    rw [Finset.sum_insert hi, Finset.sum_insert hi, ← ih,
      EReal.right_distrib_of_nonneg_of_ne_top (EReal.coe_nonneg.mpr hc) (EReal.coe_ne_top c)]

/-- A sum of reals, taken among the extended reals. -/
theorem sum_coe {ι : Type*} (t : Finset ι) (f : ι → ℝ) :
    ∑ i ∈ t, (f i : EReal) = ((∑ i ∈ t, f i : ℝ) : EReal) := by
  classical
  induction t using Finset.induction_on with
  | empty => rw [Finset.sum_empty, Finset.sum_empty, EReal.coe_zero]
  | insert i t hi ih => rw [Finset.sum_insert hi, Finset.sum_insert hi, ih, EReal.coe_add]

/-- Dividing at the end is dividing every weight, when no score is `⊤` and one is not `⊥`. -/
theorem late_eq_early {n : ℕ} (S V : Fin n → EReal) (hS : ∀ j, S j ≠ ⊤) (i : Fin n)
    (hi : S i ≠ ⊥) : late S V = early S V := by
  have hM : ∃ μ : ℝ, peak S = μ := by
    have h1 : peak S ≠ ⊥ := fun e => hi (le_bot_iff.mp (e ▸ le_peak S i))
    have h2 : peak S ≠ ⊤ := by
      have : peak S < ⊤ := (Finset.sup_lt_iff (f := S) bot_lt_top).mpr fun j _ =>
        lt_top_iff_ne_top.mpr (hS j)
      exact this.ne
    exact ⟨_, (EReal.coe_toReal h2 h1).symm⟩
  obtain ⟨μ, hμ⟩ := hM
  have hw : ∀ j, ∃ p : ℝ, 0 ≤ p ∧ weight S j = p ∧ (j = i → 0 < p) := by
    intro j
    by_cases h : S j = ⊥
    · exact ⟨0, le_rfl, by rw [weight_of_bot h, EReal.coe_zero], fun e => absurd (e ▸ h) hi⟩
    · refine ⟨Real.exp ((S j).toReal - μ), (Real.exp_pos _).le, ?_, fun _ => Real.exp_pos _⟩
      rw [weight, hμ, ← EReal.coe_toReal (hS j) h, ← EReal.coe_sub, Ideal.exp_coe,
        EReal.toReal_coe]
  choose p hp0 hp hpi using hw
  have hd : ∑ k, weight S k = ((∑ k, p k : ℝ) : EReal) := by
    rw [← sum_coe]
    exact Finset.sum_congr rfl fun k _ => hp k
  have hpos : 0 < ∑ k, p k :=
    lt_of_lt_of_le (hpi i rfl) (Finset.single_le_sum (fun k _ => hp0 k) (Finset.mem_univ i))
  rw [late, early, hd, Ideal.div_coe hpos.ne', sum_mul_coe _ _ (one_div_pos.mpr hpos).le]
  refine Finset.sum_congr rfl fun j _ => ?_
  rw [Ideal.div_coe hpos.ne', mul_right_comm]

/-- Being a real number. -/
def IsReal (x : EReal) : Prop := ∃ r : ℝ, x = r

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum {ι : Type*} (t : Finset ι) {f : ι → EReal} (h : ∀ i, IsReal (f i)) :
    IsReal (∑ i ∈ t, f i) := by
  choose g hg using h
  exact ⟨∑ i ∈ t, g i, by rw [← sum_coe]; exact Finset.sum_congr rfl fun i _ => hg i⟩

theorem IsReal.ne_top {x : EReal} : IsReal x → x ≠ ⊤ := by
  rintro ⟨a, rfl⟩
  exact EReal.coe_ne_top a

theorem IsReal.ne_bot {x : EReal} : IsReal x → x ≠ ⊥ := by
  rintro ⟨a, rfl⟩
  exact EReal.coe_ne_bot a

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

theorem isReal_eighth : IsReal (Ideal.ofBits .f32 0x3E000000#32) := by
  refine ⟨8388608 * (1 / 67108864), ?_⟩
  rw [EReal.coe_mul]
  simp [Ideal.ofBits, Ideal.ieee]
  norm_num

/-- Position `i` sees position `j`: `j` lies in the chunk of 64 that `i` lies in, or in one of the eight before. -/
def Sees (i j : ℕ) : Prop := j / 64 ≤ i / 64 ∧ i / 64 ≤ j / 64 + 8

instance (i j : ℕ) : Decidable (Sees i j) := inferInstanceAs (Decidable (_ ∧ _))

/-- The column of the bias table that belongs to query `i` and key `j`: the table's columns are the 640 keys that
    end with the last of the 128 queries `i` lies among. -/
def col (i j : ℕ) : Fin 640 := ⟨(j + 512 - 128 * (i / 128)) % 640, by omega⟩

end

end Cert.AttnMath
-- ==== Proof.AttnBlock.lean ====
/- The attention call: what one grid point stores, head by head. -/
module

public import proofs.«01_k».proof.Proof.AttnMath
public import proofs.«01_k».proof.Proof.Gen.AttnKernelIdeal.Value
public import Idealize.ShloMosaic.Lib.Pipeline.ValueKit
public import Idealize.ShloMosaic.Lib.Pointwise
public import Idealize.ShloMosaic.Lib.Tactic.CleanTypes

@[expose] public section

set_option maxRecDepth 16384

noncomputable section

namespace Cert.AttnKernelIdeal.Rowwise

open Cert.AttnKernelIdeal Cert.AttnKernelIdeal.Gen Cert.AttnKernelIdeal.Value
open Idealize.ShloMosaic Idealize.ShloMosaic.TcCoe Idealize.SL.Sem

/-- Column `d` of head `h`, among the eight heads' columns. -/
def hcol (h : Fin 8) (d : Fin 64) : Fin 512 := ⟨h.val * 64 + d.val, by omega⟩

/-- One row of one head: the scores over the 640 keys of the window, and the values' mix divided at the end. -/
def head (q : FVec Ideal S128x512 .f32) (k v : FVec Ideal S640x512 .f32) (mask : FVec Ideal S128x640 .f32)
    (bias : FVec Ideal S8x128x640 .f32) (h : Fin 8) (i : Fin 128) (d : Fin 64) : EReal :=
  AttnMath.late (fun w => (∑ e, q (ix2 i (hcol h e)) * k (ix2 w (hcol h e))) * Ideal.ofBits .f32 0x3E000000#32
    + bias (ix3 h i w) + mask (ix2 i w)) (fun w => v (ix2 w (hcol h d)))

/-- The row of the last head, from its queries, keys and values. -/
def last (q : FVec Ideal S128x64 .bf16) (k v : FVec Ideal S640x64 .bf16) (mask : FVec Ideal S128x640 .f32)
    (bias : FVec Ideal S1x128x640 .f32) (i : Fin 128) (d : Fin 64) : EReal :=
  AttnMath.late (fun w => (∑ e, q (ix2 i e) * k (ix2 w e)) * Ideal.ofBits .f32 0x3E000000#32
    + bias (ix3 0 i w) + mask (ix2 i w)) (fun w => v (ix2 w d))

/-- A case split that gives the same value both ways has that value. -/
theorem ite_same {α : Type*} {P : Prop} [Decidable P] {a : P → α} {b : ¬P → α} {r : α} (ha : ∀ h, a h = r)
    (hb : ∀ h, b h = r) : dite P a b = r := by
  by_cases h : P
  · exact (dif_pos h).trans (ha h)
  · exact (dif_neg h).trans (hb h)

/-- The eight heads side by side: column `d` of head `h` comes from the `h`-th of them. -/
theorem laid (mask : FVec Ideal S128x640 .f32) (p : Fin 7 → FVec Ideal S128x64 .f32) (q : FVec Ideal S128x64 .bf16)
    (k v : FVec Ideal S640x64 .bf16) (b : FVec Ideal S1x128x640 .f32) (h : Fin 8) (i : Fin 128) (d : Fin 64) :
    k0_pay1 (F := Ideal) mask (p 0) (p 1) (p 2) (p 3) (p 4) (p 5) (p 6) q k v b (ix2 i (hcol h d))
      = if hh : h.val < 7 then p ⟨h.val, hh⟩ (ix2 i d) else last q k v mask b i d := by
  have hv : (hcol h d).val = h.val * 64 + d.val := rfl
  have hd := d.isLt
  have h8 := h.isLt
  have e : ∀ (a : Fin 7) (x : ℕ) (g : x < 64) (ha : a.val = h.val) (hx : x = d.val),
      p a (ix2 i ⟨x, g⟩) = if hh : h.val < 7 then p ⟨h.val, hh⟩ (ix2 i d) else last q k v mask b i d := by
    intro a x g ha hx
    rw [dif_pos (by omega)]
    subst hx
    exact congrArg (fun a => p a (ix2 i d)) (Fin.ext ha)
  generalize hR : (if hh : h.val < 7 then p ⟨h.val, hh⟩ (ix2 i d) else last q k v mask b i d) = R at e ⊢
  pointwise [k0_pay1]
  refine ite_same (fun h0 => e 0 _ _ (show 0 = h.val by omega) (by omega)) fun h0 => ?_
  refine ite_same (fun h1 => e 1 _ _ (show 1 = h.val by omega) (by omega)) fun h1 => ?_
  refine ite_same (fun h2 => e 2 _ _ (show 2 = h.val by omega) (by omega)) fun h2 => ?_
  refine ite_same (fun h3 => e 3 _ _ (show 3 = h.val by omega) (by omega)) fun h3 => ?_
  refine ite_same (fun h4 => e 4 _ _ (show 4 = h.val by omega) (by omega)) fun h4 => ?_
  refine ite_same (fun h5 => e 5 _ _ (show 5 = h.val by omega) (by omega)) fun h5 => ?_
  refine ite_same (fun h6 => e 6 _ _ (show 6 = h.val by omega) (by omega)) fun h6 => ?_
  rw [← hR, dif_neg (by omega)]
  have e7 : ∀ (x : ℕ) (g : x < 64) (hx : x = d.val), (⟨x, g⟩ : Fin 64) = d := fun x g hx => Fin.ext hx
  simp only [e7 _ _ (show (hcol h d).val - 64 - 64 - 64 - 64 - 64 - 64 - 64 = d.val by omega)]
  simp only [last, AttnMath.late, AttnMath.weight, AttnMath.peak, AttnMath.ofBits_neg_inf]

/-- The same with the seven heads given one by one. -/
theorem laid' (mask : FVec Ideal S128x640 .f32) (p0 p1 p2 p3 p4 p5 p6 : FVec Ideal S128x64 .f32)
    (q : FVec Ideal S128x64 .bf16) (k v : FVec Ideal S640x64 .bf16) (b : FVec Ideal S1x128x640 .f32) (h : Fin 8)
    (i : Fin 128) (d : Fin 64) :
    k0_pay1 (F := Ideal) mask p0 p1 p2 p3 p4 p5 p6 q k v b (ix2 i (hcol h d))
      = if hh : h.val < 7 then (![p0, p1, p2, p3, p4, p5, p6] : Fin 7 → FVec Ideal S128x64 .f32) ⟨h.val, hh⟩ (ix2 i d)
        else last q k v mask b i d :=
  laid mask ![p0, p1, p2, p3, p4, p5, p6] q k v b h i d

/-- A grid point's store, at row `i` and head `h`'s column `d`, is that head's row. -/
theorem heads (q : FVec Ideal S128x512 .f32) (k v : FVec Ideal S640x512 .f32) (m1 : IVec S128x640 1)
    (m2 m3 : IVec S128x640 32) (bias : FVec Ideal S8x128x640 .f32) (h : Fin 8) (i : Fin 128) (d : Fin 64) :
    k0_pay1 (F := Ideal) (k0_pay7 m1 m2 m3) (k0_pay8 k v m1 m2 m3 q (View.ld bias r0_1))
      (k0_pay11 (k0_pay9 v) (k0_pay10 k m1 m2 m3 q (View.ld bias r0_2)))
      (k0_pay12 k v (k0_pay7 m1 m2 m3) q (View.ld bias r0_3))
      (k0_pay15 (k0_pay7 m1 m2 m3) (k0_pay13 v) (k0_pay14 k q) (View.ld bias r0_4))
      (k0_pay16 k v (k0_pay7 m1 m2 m3) q (View.ld bias r0_5))
      (k0_pay20 (k0_pay7 m1 m2 m3) (k0_pay17 v) (k0_pay18 k q) (k0_pay19 (F := Ideal)) (View.ld bias r0_6))
      (k0_pay21 k v (k0_pay7 m1 m2 m3) q (View.ld bias r0_7))
      (k0_pay22 q) (k0_pay23 k) (k0_pay24 v) (View.ld bias r0_8) (ix2 i (hcol h d))
    = head q k v (k0_pay7 m1 m2 m3) bias h i d := by
  rw [laid']
  have hh : h = 0 ∨ h = 1 ∨ h = 2 ∨ h = 3 ∨ h = 4 ∨ h = 5 ∨ h = 6 ∨ h = 7 := by
    revert h
    decide
  rcases hh with rfl | rfl | rfl | rfl | rfl | rfl | rfl | rfl
  all_goals
    first
    | refine (dif_pos (by decide)).trans ?_
    | refine (dif_neg (by decide)).trans ?_
  · show k0_pay8 k v m1 m2 m3 q (View.ld bias r0_1) (ix2 i d) = _
    pointwise [k0_pay8, head, AttnMath.late, AttnMath.weight, AttnMath.peak, AttnMath.ofBits_neg_inf, hcol]
  · show k0_pay11 (k0_pay9 v) (k0_pay10 k m1 m2 m3 q (View.ld bias r0_2)) (ix2 i d) = _
    pointwise [k0_pay9, k0_pay10, k0_pay11, head, AttnMath.late, AttnMath.weight, AttnMath.peak, AttnMath.ofBits_neg_inf, hcol]
  · show k0_pay12 k v (k0_pay7 m1 m2 m3) q (View.ld bias r0_3) (ix2 i d) = _
    pointwise [k0_pay12, head, AttnMath.late, AttnMath.weight, AttnMath.peak, AttnMath.ofBits_neg_inf, hcol]
  · show k0_pay15 (k0_pay7 m1 m2 m3) (k0_pay13 v) (k0_pay14 k q) (View.ld bias r0_4) (ix2 i d) = _
    pointwise [k0_pay13, k0_pay14, k0_pay15, head, AttnMath.late, AttnMath.weight, AttnMath.peak, AttnMath.ofBits_neg_inf, hcol]
  · show k0_pay16 k v (k0_pay7 m1 m2 m3) q (View.ld bias r0_5) (ix2 i d) = _
    pointwise [k0_pay16, head, AttnMath.late, AttnMath.weight, AttnMath.peak, AttnMath.ofBits_neg_inf, hcol]
  · show k0_pay20 (k0_pay7 m1 m2 m3) (k0_pay17 v) (k0_pay18 k q) (k0_pay19 (F := Ideal)) (View.ld bias r0_6) (ix2 i d) = _
    pointwise [k0_pay17, k0_pay18, k0_pay19, k0_pay20, head, AttnMath.late, AttnMath.weight, AttnMath.peak, AttnMath.ofBits_neg_inf, hcol]
  · show k0_pay21 k v (k0_pay7 m1 m2 m3) q (View.ld bias r0_7) (ix2 i d) = _
    pointwise [k0_pay21, head, AttnMath.late, AttnMath.weight, AttnMath.peak, AttnMath.ofBits_neg_inf, hcol]
  · pointwise [k0_pay22, k0_pay23, k0_pay24, last, head, AttnMath.late, AttnMath.weight, AttnMath.peak, hcol]

end Cert.AttnKernelIdeal.Rowwise

end
-- ==== Proof.AttnWindow.lean ====
/- The attention call: the mask of the window, and the keys and values that a grid point joins. -/
module

public import proofs.«01_k».proof.Proof.AttnBlock
public import proofs.«01_k».proof.Proof.Gen.AttnKernelIdeal.Value
public import Idealize.ShloMosaic.Lib.Pipeline.ValueKit
public import Idealize.ShloMosaic.Lib.Pointwise
public import Idealize.ShloMosaic.Lib.Tactic.CleanTypes

@[expose] public section

set_option maxRecDepth 16384

noncomputable section

namespace Cert.AttnKernelIdeal.Rowwise

open Cert.AttnKernelIdeal Cert.AttnKernelIdeal.Gen Cert.AttnKernelIdeal.Value
open Idealize.ShloMosaic Idealize.ShloMosaic.TcCoe Idealize.SL.Sem

/-- Where each window's block stands at grid point `t`: sixteen blocks of 128 rows make a sequence, and the five key and
    value blocks are the query's own and the four before it, the first one standing in for those before the start. -/
theorem idx : ∀ t : Fin cfg0.N, win0_0.index t = ![t.val, 3]
    ∧ win0_1.index t = ![16 * (t.val / 16) + (t.val % 16 - 4), 4] ∧ win0_2.index t = ![16 * (t.val / 16) + (t.val % 16 - 3), 4]
    ∧ win0_3.index t = ![16 * (t.val / 16) + (t.val % 16 - 2), 4] ∧ win0_4.index t = ![16 * (t.val / 16) + (t.val % 16 - 1), 4]
    ∧ win0_5.index t = ![16 * (t.val / 16) + t.val % 16, 4]
    ∧ win0_6.index t = ![16 * (t.val / 16) + (t.val % 16 - 4), 5] ∧ win0_7.index t = ![16 * (t.val / 16) + (t.val % 16 - 3), 5]
    ∧ win0_8.index t = ![16 * (t.val / 16) + (t.val % 16 - 2), 5] ∧ win0_9.index t = ![16 * (t.val / 16) + (t.val % 16 - 1), 5]
    ∧ win0_10.index t = ![16 * (t.val / 16) + t.val % 16, 5] ∧ win0_11.index t = ![0, 0, 0]
    ∧ win0_12.index t = ![t.val, 0] :=
  (by decide +kernel : ∀ t : Fin grid0.N, _)

/-- A grid point's second coordinate is its query block within the sequence. -/
theorem coord : ∀ t : Fin cfg0.N, (grid0.coords t 1).val = t.val % 16 :=
  (by decide +kernel : ∀ t : Fin grid0.N, _)

/-- Key `w` of the window is one that query `i` of block `b` sees. -/
def Valid (b i w : ℕ) : Prop := (i / 64 ≤ w / 64 ∧ w / 64 ≤ i / 64 + 8) ∧ 512 ≤ 128 * b + w

instance (b i w : ℕ) : Decidable (Valid b i w) := inferInstanceAs (Decidable (_ ∧ _))

theorem shiftWord : ∀ w : Fin 640, IntOp.shrsi .vector (BitVec.ofNat 32 w.val) 6#32 = BitVec.ofNat 32 (w.val / 64) := by
  decide +kernel

theorem chunkWord : ∀ (a : Fin 2) (b : Fin 10), IntOp.andi
      (IntOp.cmpi .sge (IntOp.subi (BitVec.ofNat 32 b.val) 8#32) (IntOp.subi (BitVec.ofNat 32 a.val) 8#32))
      (IntOp.cmpi .sle (IntOp.subi (BitVec.ofNat 32 b.val) 8#32) (BitVec.ofNat 32 a.val))
    = if a.val ≤ b.val ∧ b.val ≤ a.val + 8 then 1#1 else 0#1 := by
  decide +kernel

theorem startWord : ∀ (b : Fin 16) (w : Fin 640), IntOp.cmpi .sge
      (IntOp.subi (IntOp.addi (Scalar.muli (BitVec.ofNat 32 b.val) 128#32) (BitVec.ofNat 32 w.val)) 512#32) 0#32
    = if 512 ≤ 128 * b.val + w.val then 1#1 else 0#1 := by
  decide +kernel

/-- The mask of a grid point: nothing for a key that the query sees, `⊥` for any other. -/
theorem mask_at (t : Fin cfg0.N) (i : Fin 128) (w : Fin 640) :
    k0_pay7 (F := Ideal) k0_pay4 (k0_pay5 (grid0.coords t)) k0_pay6 (ix2 i w)
      = if Valid (t.val % 16) i.val w.val then 0 else ⊥ := by
  pointwise [k0_pay7, k0_pay4, k0_pay5, k0_pay6]
  have ew := shiftWord w
  have ei := shiftWord ⟨i.val, by omega⟩
  simp only at ei
  rw [ew, ei, coord t]
  have h1 := chunkWord ⟨i.val / 64, by omega⟩ ⟨w.val / 64, by omega⟩
  have h2 := startWord ⟨t.val % 16, by omega⟩ w
  simp only at h1 h2
  rw [h1, h2, IdealRules.named_const.ideal_named_scalar _ _ _ _ rfl]
  unfold Valid
  by_cases a : i.val / 64 ≤ w.val / 64 ∧ w.val / 64 ≤ i.val / 64 + 8 <;> by_cases b : 512 ≤ 128 * (t.val % 16) + w.val <;>
    simp [a, b, Scalar.select, IntOp.andi]

variable (m : (ℓ : Loc nD τ sig) → Buf (Elt Ideal) ℓ)

/-- The keys that a grid point joins: key `w` of the window stands 512 before the query block's own `w`. -/
theorem keys_at (c : Dev nD) (t : Fin cfg0.N) (w : Fin 640) (q : Fin 512) (hw : 512 ≤ 128 * (t.val % 16) + w.val) :
    k0_pay2 (F := Ideal) (iblk m c 1 t) (iblk m c 2 t) (iblk m c 3 t) (iblk m c 4 t) (iblk m c 5 t) (ix2 w q)
      = m ((c : Thread nD τ).loc main_arg0) (ix2 ⟨t.val / 16 * 2048 + (128 * (t.val % 16) + w.val - 512),
          by have := t.isLt; have : cfg0.N = 256 := rfl; omega⟩ ⟨2048 + q.val, by omega⟩) := by
  pointwise [k0_pay2]
  refine ite_same (fun h0 => ?_) fun h0 => ite_same (fun h1 => ?_) fun h1 => ite_same (fun h2 => ?_) fun h2 =>
    ite_same (fun h3 => ?_) fun h3 => ?_
  all_goals blk_point [iblk, V, idx t]

/-- The values that a grid point joins: value `w` of the window stands 512 before the query block's own `w`. -/
theorem values_at (c : Dev nD) (t : Fin cfg0.N) (w : Fin 640) (q : Fin 512) (hw : 512 ≤ 128 * (t.val % 16) + w.val) :
    k0_pay3 (F := Ideal) (iblk m c 6 t) (iblk m c 7 t) (iblk m c 8 t) (iblk m c 9 t) (iblk m c 10 t) (ix2 w q)
      = m ((c : Thread nD τ).loc main_arg0) (ix2 ⟨t.val / 16 * 2048 + (128 * (t.val % 16) + w.val - 512),
          by have := t.isLt; have : cfg0.N = 256 := rfl; omega⟩ ⟨2560 + q.val, by omega⟩) := by
  pointwise [k0_pay3]
  refine ite_same (fun h0 => ?_) fun h0 => ite_same (fun h1 => ?_) fun h1 => ite_same (fun h2 => ?_) fun h2 =>
    ite_same (fun h3 => ?_) fun h3 => ?_
  all_goals blk_point [iblk, V, idx t]

end Cert.AttnKernelIdeal.Rowwise

end
-- ==== Proof.AttnWords.lean ====
/- The integer words with which the attention's reference finds a position's chunk and its column in the bias table. -/
module

public import proofs.«01_k».proof.Proof.AttnMath

@[expose] public section

set_option maxRecDepth 16384

noncomputable section

namespace Cert.AttnWords

open Idealize.ShloMosaic

/-- A position's remainder by 128, as the program computes it on words. -/
def rowWord (w : BitVec 32) : BitVec 32 :=
  Scalar.select
    (IntOp.andi
      (IntOp.cmpi .ne
        (IntOp.cmpi .slt (IntOp.remsi .host w (Scalar.select (IntOp.cmpi .eq 128#32 0#32) 1#32 128#32)) 0#32)
        (IntOp.cmpi .slt (Scalar.select (IntOp.cmpi .eq 128#32 0#32) 1#32 128#32) 0#32))
      (IntOp.cmpi .ne (IntOp.remsi .host w (Scalar.select (IntOp.cmpi .eq 128#32 0#32) 1#32 128#32)) 0#32))
    (IntOp.addi (IntOp.remsi .host w (Scalar.select (IntOp.cmpi .eq 128#32 0#32) 1#32 128#32))
      (Scalar.select (IntOp.cmpi .eq 128#32 0#32) 1#32 128#32))
    (IntOp.remsi .host w (Scalar.select (IntOp.cmpi .eq 128#32 0#32) 1#32 128#32))

/-- A column of the bias table, as the program computes it on words. -/
def colWord (w u : BitVec 32) : BitVec 32 :=
  IntOp.minsi 639#32 (IntOp.maxsi 0#32 (IntOp.addi (IntOp.subi w u) 512#32))

/-- A position's chunk, as the program computes it on words. -/
def chunkWord (w : BitVec 32) : BitVec 32 :=
  Scalar.select
    (IntOp.andi
      (IntOp.cmpi .ne (if w = 0 then 0 else if w.msb = true then -1 else 1 : BitVec 32) 1#32)
      (IntOp.cmpi .ne (IntOp.remsi .host w 64#32) 0#32))
    (IntOp.subi (IntOp.divsi .host w 64#32) 1#32)
    (IntOp.divsi .host w 64#32)

theorem rowWord_eq : ∀ i : Fin 2048, rowWord (BitVec.ofNat 32 i.val) = BitVec.ofNat 32 (i.val % 128) := by
  decide +kernel

theorem rowWord_wrap : ∀ i : Fin 2048, Scalar.select (IntOp.cmpi .slt (BitVec.ofNat 32 (i.val % 128)) 0#32)
    (IntOp.addi (BitVec.ofNat 32 (i.val % 128)) 128#32) (BitVec.ofNat 32 (i.val % 128))
    = BitVec.ofNat 32 (i.val % 128) := by
  decide +kernel

theorem blockWord_eq : ∀ i : Fin 2048, IntOp.subi (BitVec.ofNat 32 i.val) (BitVec.ofNat 32 (i.val % 128))
    = BitVec.ofNat 32 (128 * (i.val / 128)) := by
  decide +kernel

theorem chunkWord_eq : ∀ i : Fin 2048, chunkWord (BitVec.ofNat 32 i.val) = BitVec.ofNat 32 (i.val / 64) := by
  decide +kernel

theorem shiftWord_eq (a : Fin 16) (j : Fin 2048) (h : 128 * a.val ≤ j.val + 512) :
    IntOp.addi (IntOp.subi (BitVec.ofNat 32 j.val) (BitVec.ofNat 32 (128 * a.val))) 512#32
      = BitVec.ofNat 32 (j.val + 512 - 128 * a.val) := by
  show BitVec.ofNat 32 j.val - BitVec.ofNat 32 (128 * a.val) + 512#32 = _
  apply BitVec.eq_of_toNat_eq
  simp only [BitVec.toNat_add, BitVec.toNat_sub, BitVec.toNat_ofNat]
  omega

theorem clipWord_eq : ∀ k : Fin 640, IntOp.minsi 639#32 (IntOp.maxsi 0#32 (BitVec.ofNat 32 k.val))
    = BitVec.ofNat 32 k.val := by
  decide +kernel

/-- The column's word is the column, for a key inside the table's 640. -/
theorem colWord_eq (a : Fin 16) (j : Fin 2048) (h : 128 * a.val ≤ j.val + 512)
    (h' : j.val + 512 < 128 * a.val + 640) :
    colWord (BitVec.ofNat 32 j.val) (BitVec.ofNat 32 (128 * a.val)) = BitVec.ofNat 32 (j.val + 512 - 128 * a.val) := by
  rw [colWord, shiftWord_eq a j h]
  exact clipWord_eq ⟨j.val + 512 - 128 * a.val, by omega⟩

theorem colWord_wrap : ∀ k : Fin 640, Scalar.select (IntOp.cmpi .slt (BitVec.ofNat 32 k.val) 0#32)
    (IntOp.addi (BitVec.ofNat 32 k.val) 640#32) (BitVec.ofNat 32 k.val) = BitVec.ofNat 32 k.val := by
  decide +kernel

theorem bandWord_eq : ∀ a b : Fin 32, IntOp.andi
      (IntOp.cmpi .sge (IntOp.subi (BitVec.ofNat 32 a.val) (BitVec.ofNat 32 b.val)) 0#32)
      (IntOp.cmpi .sle (IntOp.subi (BitVec.ofNat 32 a.val) (BitVec.ofNat 32 b.val)) 8#32)
    = if b.val ≤ a.val ∧ a.val ≤ b.val + 8 then 1#1 else 0#1 := by
  decide +kernel

end Cert.AttnWords

end
-- ==== Proof.AttnGather.lean ====
/- The bias table of the attention's reference, read through its gather. -/
module

public import proofs.«01_k».proof.Proof.Gen.AttnReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.AttnReferenceIdeal.Rowwise

open Cert.AttnReferenceIdeal Cert.AttnReferenceIdeal.Gen
open Idealize.ShloMosaic

/-- A table read at a pair of positions that lie inside it. -/
theorem gather_at (x : FVec Ideal S8x128x640 .f32) (I : IVec S2048x2048x2 32) (h : Fin 8) (i j : Fin 2048)
    (a : Fin 128) (b : Fin 640) (ha : I (ix3 i j 0) = BitVec.ofNat 32 a.val)
    (hb : I (ix3 i j 1) = BitVec.ofNat 32 b.val) :
    Host.gather gather_S8x128x640_S2048x2048x2_S8x2048x2048_0_12_n_n_12_2_811 x I (ix3 h i j) = x (ix3 h a b) := by
  have sa : ∀ n : Fin 128, min (BitVec.ofNat 32 n.val).toInt.toNat (128 - 1) = n.val := by decide +kernel
  have sb : ∀ n : Fin 640, min (BitVec.ofNat 32 n.val).toInt.toNat (640 - 1) = n.val := by decide +kernel
  unfold Host.gather
  congr 1
  funext k
  refine Fin.ext ?_
  show GatherDims.start _ (ix3 h i j) I k + GatherDims.batchCoord _ (ix3 h i j) k
    + GatherDims.offCoord _ (ix3 h i j) k = _
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  have hI : ∀ (p : S2048x2048x2.Idx) (e : Fin 2), (∀ q, (p q).val = (ix3 i j e q : ℕ)) → p = ix3 i j e :=
    fun p e hp => funext fun q => Fin.ext (hp q)
  rcases hk with rfl | rfl | rfl
  · rw [GatherDims.batchCoord_eq_zero _ _ _ (by decide)]
    unfold GatherDims.start GatherDims.offCoord
    rw [dif_neg (by decide), dif_pos (by decide)]
    simp only [Nat.zero_add]
    rfl
  · rw [GatherDims.batchCoord_eq_zero _ _ _ (by decide), GatherDims.offCoord_eq_zero _ _ _ (by decide)]
    unfold GatherDims.start
    rw [dif_pos (by decide)]
    refine Eq.trans ?_ ((congrArg (fun w : BitVec 32 => min w.toInt.toNat (128 - 1)) ha).trans (sa a))
    exact congrArg (fun p => min (I p).toInt.toNat (128 - 1))
      (hI _ 0 fun q => by match q with | ⟨0, _⟩ => rfl | ⟨1, _⟩ => rfl | ⟨2, _⟩ => rfl)
  · rw [GatherDims.batchCoord_eq_zero _ _ _ (by decide), GatherDims.offCoord_eq_zero _ _ _ (by decide)]
    unfold GatherDims.start
    rw [dif_pos (by decide)]
    refine Eq.trans ?_ ((congrArg (fun w : BitVec 32 => min w.toInt.toNat (640 - 1)) hb).trans (sb b))
    exact congrArg (fun p => min (I p).toInt.toNat (640 - 1))
      (hI _ 1 fun q => by match q with | ⟨0, _⟩ => rfl | ⟨1, _⟩ => rfl | ⟨2, _⟩ => rfl)

end Cert.AttnReferenceIdeal.Rowwise

end
-- ==== Proof.AttnRef.lean ====
/- The attention: the reference's result at an index. -/
module

public import proofs.«01_k».proof.Proof.AttnWords
public import proofs.«01_k».proof.Proof.AttnGather
public import proofs.«01_k».proof.Proof.Gen.AttnReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.AttnReferenceIdeal.Rowwise

open Cert.AttnReferenceIdeal Cert.AttnReferenceIdeal.Gen Cert.AttnReferenceIdeal.Value
open Idealize.ShloMosaic Idealize.ShloMosaic.TcCoe Idealize.SL.Sem

/-- The score of query `r` for key `j` of its sequence, in the head that column `q` belongs to; `⊥` for a key that
    the query does not see. -/
def score (z : FVec Ideal S32768x6144 .f32) (bias : FVec Ideal S8x128x640 .f32) (r : Fin 32768) (q : Fin 512)
    (j : Fin 2048) : EReal :=
  if AttnMath.Sees (r.val % 2048) j.val then
    (∑ e : Fin 64, z (ix2 r ⟨1536 + (q.val / 64 * 64 + e.val), by omega⟩)
        * z (ix2 ⟨r.val / 2048 * 2048 + j.val, by omega⟩ ⟨2048 + (q.val / 64 * 64 + e.val), by omega⟩))
      * Ideal.ofBits .f32 0x3E000000#32
      + bias (ix3 ⟨q.val / 64, by omega⟩ ⟨r.val % 2048 % 128, by omega⟩ (AttnMath.col (r.val % 2048) j.val))
  else ⊥

/-- The values that column `q` of query `r` mixes. -/
def value (z : FVec Ideal S32768x6144 .f32) (r : Fin 32768) (q : Fin 512) (j : Fin 2048) : EReal :=
  z (ix2 ⟨r.val / 2048 * 2048 + j.val, by omega⟩ ⟨2560 + q.val, by omega⟩)

/-- The attention over the whole array. -/
def attended (z : FVec Ideal S32768x6144 .f32) (bias : FVec Ideal S8x128x640 .f32) : FVec Ideal S32768x512 .f32 :=
  fun y => AttnMath.early (score z bias (y 0) (y 1)) (value z (y 0) (y 1))

/-- A row's maximum over its 2048 scores, from the initial value. -/
theorem top_at (s : FVec Ideal S16x8x2048x2048 .f32) (init : FVec Ideal S_ .f32) (b : Fin 16) (h : Fin 8) (i : Fin 2048) :
    Host.reduce FloatOps.maximumf s init reducesTo_S16x8x2048x2048_S16x8x2048_d3 h_S_ (ix3 b h i)
      = Finset.univ.fold max (init ix0) fun j : Fin 2048 => s (ix4 b h i j) := by
  have hR : S16x8x2048x2048.Reduces [3] S16x8x2048 := by decide
  rw [Host.reduce_eq_fold_single FloatOps.maximumf s init _ hR]
  have hl : ∀ k : Fin 2048, hR.lift (ix3 b h i) k = ix4 b h i k := by
    intro k
    funext a
    apply Fin.ext
    refine (hR.lift_val (ix3 b h i) k a).trans ?_
    rcases a with ⟨_ | _ | _ | _ | a, ha⟩
    all_goals first | rfl | (exact absurd ha (by simp only [show S16x8x2048x2048.rank = 4 from rfl]; omega))
  have hx : Shape.Idx.first h_S_ = ix0 := funext fun a => a.elim0
  rw [hx]
  exact congrArg (fun f => Finset.fold max (init ix0) f Finset.univ) (funext fun k => congrArg s (hl k))

/-- The sign of the chunk's length. -/
theorem sign_at : signi (id (constantI S_ 32 64#32)) = fun _ => 1#32 := by
  funext x
  show (if (64#32 : BitVec 32) = 0 then (0 : BitVec 32) else if (64#32 : BitVec 32).msb = true then -1 else 1) = 1#32
  decide

/-- The whole result from the values and the weights: column `q` mixes the values of its head. -/
theorem mix_at (v : FVec Ideal S16x2048x8x64 .f32) (a : FVec Ideal S16x8x2048x2048 .f32) (r : Fin 32768) (q : Fin 512) :
    shapeCast S32768x512 (transpose S16x2048x8x64 [0, 3, 1, 2]
        (Host.dotGeneral dot_S16x2048x8x64_S16x8x2048x2048_S16x8x64x2048_1_3_3_2_02_01 none v a)
        transposes_S16x8x64x2048_S16x2048x8x64_0_3_1_2) shapeCasts_S16x2048x8x64_S32768x512 (ix2 r q)
      = ∑ j : Fin 2048, v (ix4 ⟨r.val / 2048, by omega⟩ j ⟨q.val / 64, by omega⟩ ⟨q.val % 64, by omega⟩)
          * a (ix4 ⟨r.val / 2048, by omega⟩ ⟨q.val / 64, by omega⟩ ⟨r.val % 2048, by omega⟩ j) := by
  pointwise

/-- The values, head by head. -/
theorem value_at (z : FVec Ideal S32768x6144 .f32) (b : Fin 16) (i : Fin 2048) (h : Fin 8) (e : Fin 64) :
    shapeCast S16x2048x8x64 (extractStridedSlice S32768x512 ![0, 2560] z slices_S32768x6144_S32768x512_0_2560)
        shapeCasts_S32768x512_S16x2048x8x64 (ix4 b i h e)
      = z (ix2 ⟨b.val * 2048 + i.val, by omega⟩ ⟨2560 + (h.val * 64 + e.val), by omega⟩) := by
  pointwise

/-- A row's total, at every position of the row. -/
theorem total_at (s : FVec Ideal S16x8x2048x2048 .f32) (b : Fin 16) (h : Fin 8) (i j : Fin 2048) :
    broadcastInDim S16x8x2048x2048 ![0, 1, 2, 3] bcast_S16x8x2048x1_S16x8x2048x2048_0_1_2_3
        (broadcastInDim S16x8x2048x1 ![0, 1, 2] bcast_S16x8x2048_S16x8x2048x1_0_1_2
          (Host.reduceAdd s (constant S_ .f32 0x00000000#32) reducesTo_S16x8x2048x2048_S16x8x2048_d3 h_S_)) (ix4 b h i j)
      = ∑ k, s (ix4 b h i k) := by
  pointwise

/-- The exponential of a score less its row's peak. -/
theorem exp_at (s : FVec Ideal S16x8x2048x2048 .f32) (t : FVec Ideal S16x8x2048 .f32) (b : Fin 16) (h : Fin 8)
    (i j : Fin 2048) :
    Host.exp (subf s (broadcastInDim S16x8x2048x2048 ![0, 1, 2, 3] bcast_S16x8x2048x1_S16x8x2048x2048_0_1_2_3
        (broadcastInDim S16x8x2048x1 ![0, 1, 2] bcast_S16x8x2048_S16x8x2048x1_0_1_2
          (maximumf (broadcastInDim S16x8x2048 ![] bcast_S_S16x8x2048 (constant S_ .f32 0xFF800000#32)) t))))
        (ix4 b h i j)
      = Ideal.exp (s (ix4 b h i j) - max (Ideal.ofBits .f32 0xFF800000#32) (t (ix3 b h i))) := by
  pointwise

/-- The weights' quotient, position by position. -/
theorem div_at (s t : FVec Ideal S16x8x2048x2048 .f32) (b : Fin 16) (h : Fin 8) (i j : Fin 2048) :
    Host.divf s t (ix4 b h i j) = Ideal.div (s (ix4 b h i j)) (t (ix4 b h i j)) := by
  pointwise

/-- The reference's result is that attention. -/
theorem result (m : (ℓ : Loc nD τ sig) → Buf (Elt Ideal) ℓ) (c : Dev nD) :
    res_main_v64 (F := Ideal) m c = attended (m ((c.tc : Thread nD τ).loc main_arg0))
      (m ((c.tc : Thread nD τ).loc main_arg1)) := by
  funext y
  obtain ⟨r, q, rfl⟩ : ∃ (r : Fin 32768) (q : Fin 512), y = ix2 r q := ⟨y 0, y 1, eq_ix2 y⟩
  unfold res_main_v64
  clean_types
  generalize hz : m ((c.tc : Thread nD τ).loc main_arg0) = z
  generalize hb : m ((c.tc : Thread nD τ).loc main_arg1) = bias
  clear hz hb
  change FVec Ideal S32768x6144 .f32 at z
  change FVec Ideal S8x128x640 .f32 at bias
  generalize hX : select _ (addf (F := Ideal) (φ := .f32) _ _) _ = X
  generalize hI : concatenate S2048x2048x2 2 _ _ = I at hX
  generalize hB : andi (cmpi .sge _ _) (cmpi .sle _ _) = B at hX
  generalize hG : Host.gather _ _ I = G at hX
  have eB : ∀ i j : Fin 2048, B (ix2 i j) = if AttnMath.Sees i.val j.val then 1#1 else 0#1 := by
    intro i j
    rw [← hB, sign_at]
    pointwise [id]
    have ci := AttnWords.chunkWord_eq i
    have cj := AttnWords.chunkWord_eq j
    unfold AttnWords.chunkWord at ci cj
    simp only [ci, cj]
    exact AttnWords.bandWord_eq ⟨i.val / 64, by omega⟩ ⟨j.val / 64, by omega⟩
  have e0 : ∀ i j : Fin 2048, I (ix3 i j 0) = BitVec.ofNat 32 (i.val % 128) := by
    intro i j
    rw [← hI]
    pointwise [id]
    have ri := AttnWords.rowWord_eq i
    unfold AttnWords.rowWord at ri
    simp only [ri]
    exact AttnWords.rowWord_wrap i
  have e1 : ∀ i j : Fin 2048, AttnMath.Sees i.val j.val →
      I (ix3 i j 1) = BitVec.ofNat 32 (AttnMath.col i.val j.val).val := by
    intro i j hs
    have hs : j.val / 64 ≤ i.val / 64 ∧ i.val / 64 ≤ j.val / 64 + 8 := hs
    rw [← hI]
    pointwise [id]
    have ri := AttnWords.rowWord_eq i
    unfold AttnWords.rowWord at ri
    have cj := AttnWords.colWord_eq ⟨i.val / 128, by omega⟩ j (by dsimp only; omega) (by dsimp only; omega)
    unfold AttnWords.colWord at cj
    have ek : j.val + 512 - 128 * (i.val / 128) = (AttnMath.col i.val j.val).val :=
      (Nat.mod_eq_of_lt (by omega)).symm
    dsimp only at cj
    simp only [ri, AttnWords.blockWord_eq, cj, ek]
    exact AttnWords.colWord_wrap (AttnMath.col i.val j.val)
  have eS : ∀ (h : Fin 8) (i j : Fin 2048) (s : EReal),
      Scalar.select (B (ix2 i j)) (s + G (ix3 h i j)) (id (constant (F := Ideal) S_ FTy.f32 0xFF800000#32) ix0)
      = if AttnMath.Sees i.val j.val then s + bias
          (ix3 h ⟨i.val % 128, by omega⟩ (AttnMath.col i.val j.val)) else ⊥ := by
    intro h i j s
    rw [eB]
    by_cases hs : AttnMath.Sees i.val j.val
    · rw [if_pos hs, if_pos hs, ← hG, gather_at _ I h i j ⟨i.val % 128, by omega⟩ _ (e0 i j) (e1 i j hs)]
      rfl
    · rw [if_neg hs, if_neg hs]
      exact AttnMath.ofBits_neg_inf
  have eX : ∀ (b : Fin 16) (h : Fin 8) (i j : Fin 2048), X (ix4 b h i j) = if AttnMath.Sees i.val j.val then
      (∑ e : Fin 64, z (ix2 ⟨b.val * 2048 + i.val, by omega⟩
          ⟨1536 + (h.val * 64 + e.val), by omega⟩)
        * z (ix2 ⟨b.val * 2048 + j.val, by omega⟩
          ⟨2048 + (h.val * 64 + e.val), by omega⟩)) * Ideal.ofBits .f32 0x3E000000#32
        + bias (ix3 h ⟨i.val % 128, by omega⟩ (AttnMath.col i.val j.val))
      else ⊥ := by
    intro b h i j
    rw [← hX]
    clear hI hB hG
    pointwise
    exact eS h i j _
  clear hI hB hG hX
  generalize hM : Host.reduce FloatOps.maximumf X _ _ _ = M
  have eM : ∀ (b : Fin 16) (h : Fin 8) (i : Fin 2048),
      M (ix3 b h i) = Finset.univ.fold max ⊥ fun j : Fin 2048 => X (ix4 b h i j) := by
    intro b h i
    rw [← hM, top_at]
    exact congrArg (fun s => Finset.fold max s _ _) AttnMath.ofBits_neg_inf
  clear hM
  generalize hE : Host.exp (F := Ideal) (φ := .f32) _ = E
  have eE : ∀ (b : Fin 16) (h : Fin 8) (i j : Fin 2048), E (ix4 b h i j)
      = Ideal.exp (X (ix4 b h i j) - Finset.univ.fold max ⊥ fun j : Fin 2048 => X (ix4 b h i j)) := by
    intro b h i j
    rw [← hE]
    refine (exp_at X M b h i j).trans ?_
    rw [AttnMath.ofBits_neg_inf, max_bot_left, eM]
  clear hE
  have hS : ∀ j : Fin 2048, X (ix4 ⟨r.val / 2048, by omega⟩ ⟨q.val / 64, by omega⟩ ⟨r.val % 2048, by omega⟩ j)
      = score z bias r q j := by
    intro j
    rw [eX]
    unfold score
    simp only [Nat.div_add_mod', Fin.eta]
  have hA : attended z bias (ix2 r q) = AttnMath.early (score z bias r q) (value z r q) := rfl
  refine (mix_at _ _ r q).trans ?_
  rw [hA]
  unfold AttnMath.early AttnMath.weight AttnMath.peak value
  refine Finset.sum_congr rfl fun j _ => ?_
  rw [value_at, div_at, total_at, mul_comm]
  simp only [eE, hS, Nat.div_add_mod']

end Cert.AttnReferenceIdeal.Rowwise

end
-- ==== Proof.AttnValue.lean ====
/- The attention call: what one grid point stores is the reference, and so is the array that the kernel leaves. -/
module

public import proofs.«01_k».proof.Proof.AttnWindow
public import proofs.«01_k».proof.Proof.AttnRef
public import proofs.«01_k».proof.Proof.Gen.AttnKernelIdeal.Value
public import Idealize.ShloMosaic.Lib.Pipeline.ValueKit
public import Idealize.ShloMosaic.Lib.Pointwise
public import Idealize.ShloMosaic.Lib.Tactic.CleanTypes

@[expose] public section

set_option maxRecDepth 16384

noncomputable section

namespace Cert.AttnKernelIdeal.Rowwise

open Cert.AttnKernelIdeal Cert.AttnKernelIdeal.Gen Cert.AttnKernelIdeal.Value
open Idealize.ShloMosaic Idealize.ShloMosaic.TcCoe Idealize.SL.Sem

/-- The condition on the arguments: the queries, the keys and the bias table hold real numbers. -/
def Finite (z : FVec Ideal S32768x6144 .f32) (bias : FVec Ideal S8x128x640 .f32) : Prop :=
  (∀ (r : Fin 32768) (c : Fin 1024), AttnMath.IsReal (z (ix2 r ⟨1536 + c.val, by omega⟩)))
    ∧ ∀ (h : Fin 8) (i : Fin 128) (w : Fin 640), AttnMath.IsReal (bias (ix3 h i w))

/-- A score of the reference for a key that the query sees. -/
theorem score_seen (z : FVec Ideal S32768x6144 .f32) (bias : FVec Ideal S8x128x640 .f32) (r : Fin 32768) (q : Fin 512)
    (j : Fin 2048) (hs : AttnMath.Sees (r.val % 2048) j.val) : AttnReferenceIdeal.Rowwise.score z bias r q j
      = (∑ e : Fin 64, z (ix2 r ⟨1536 + (q.val / 64 * 64 + e.val), by omega⟩)
          * z (ix2 ⟨r.val / 2048 * 2048 + j.val, by omega⟩ ⟨2048 + (q.val / 64 * 64 + e.val), by omega⟩))
        * Ideal.ofBits .f32 0x3E000000#32
        + bias (ix3 ⟨q.val / 64, by omega⟩ ⟨r.val % 2048 % 128, by omega⟩ (AttnMath.col (r.val % 2048) j.val)) :=
  if_pos hs

/-- Under that condition a score is a real number where the query sees the key. -/
theorem score_real {z : FVec Ideal S32768x6144 .f32} {bias : FVec Ideal S8x128x640 .f32} (hf : Finite z bias)
    (r : Fin 32768) (q : Fin 512) (j : Fin 2048) (hs : AttnMath.Sees (r.val % 2048) j.val) :
    AttnMath.IsReal (AttnReferenceIdeal.Rowwise.score z bias r q j) := by
  rw [score_seen z bias r q j hs]
  refine ((AttnMath.IsReal.sum _ fun e => ?_).mul AttnMath.isReal_eighth).add (hf.2 _ _ _)
  refine (hf.1 r ⟨q.val / 64 * 64 + e.val, by omega⟩).mul ?_
  have h := hf.1 ⟨r.val / 2048 * 2048 + j.val, by omega⟩ ⟨512 + (q.val / 64 * 64 + e.val), by omega⟩
  exact (congrArg AttnMath.IsReal (congrArg (fun x => z (ix2 _ x)) (Fin.ext (by dsimp only; omega)))).mp h

/-- Under that condition no score is `⊤`. -/
theorem score_ne_top {z : FVec Ideal S32768x6144 .f32} {bias : FVec Ideal S8x128x640 .f32} (hf : Finite z bias)
    (r : Fin 32768) (q : Fin 512) (j : Fin 2048) : AttnReferenceIdeal.Rowwise.score z bias r q j ≠ ⊤ := by
  by_cases hs : AttnMath.Sees (r.val % 2048) j.val
  · exact (score_real hf r q j hs).ne_top
  · have h : AttnReferenceIdeal.Rowwise.score z bias r q j = ⊥ := if_neg hs
    rw [h]
    exact bot_ne_top

/-- Under that condition a query's score for its own position is not `⊥`. -/
theorem score_own {z : FVec Ideal S32768x6144 .f32} {bias : FVec Ideal S8x128x640 .f32} (hf : Finite z bias)
    (r : Fin 32768) (q : Fin 512) : AttnReferenceIdeal.Rowwise.score z bias r q ⟨r.val % 2048, by omega⟩ ≠ ⊥ :=
  (score_real hf r q _ (by constructor <;> dsimp only <;> omega)).ne_bot

/-- One row of one head over the window of 640 keys is the reference's row over the whole sequence: the keys of the
    window that the query sees are all the keys that it sees, and the others weigh nothing. -/
theorem head_eq (z : FVec Ideal S32768x6144 .f32) (bias : FVec Ideal S8x128x640 .f32) (hf : Finite z bias) (t : Fin 256)
    (h : Fin 8) (i : Fin 128) (d : Fin 64) (q : FVec Ideal S128x512 .f32) (k v : FVec Ideal S640x512 .f32)
    (mask : FVec Ideal S128x640 .f32) (b : FVec Ideal S8x128x640 .f32)
    (hq : ∀ e : Fin 512, q (ix2 i e) = z (ix2 ⟨t.val * 128 + i.val, by omega⟩ ⟨1536 + e.val, by omega⟩))
    (hk : ∀ (w : Fin 640) (e : Fin 512), 512 ≤ 128 * (t.val % 16) + w.val → k (ix2 w e)
      = z (ix2 ⟨t.val / 16 * 2048 + (128 * (t.val % 16) + w.val - 512), by omega⟩ ⟨2048 + e.val, by omega⟩))
    (hv : ∀ (w : Fin 640) (e : Fin 512), 512 ≤ 128 * (t.val % 16) + w.val → v (ix2 w e)
      = z (ix2 ⟨t.val / 16 * 2048 + (128 * (t.val % 16) + w.val - 512), by omega⟩ ⟨2560 + e.val, by omega⟩))
    (hm : ∀ w : Fin 640, mask (ix2 i w) = if Valid (t.val % 16) i.val w.val then 0 else ⊥)
    (hb : ∀ w : Fin 640, b (ix3 h i w) = bias (ix3 h i w)) :
    head q k v mask b h i d = AttnReferenceIdeal.Rowwise.attended z bias
      (ix2 ⟨t.val * 128 + i.val, by omega⟩ (hcol h d)) := by
  have hcv : ∀ e : Fin 64, (hcol h e).val = h.val * 64 + e.val := fun e => rfl
  have hd := hcv d
  set r : Fin 32768 := ⟨t.val * 128 + i.val, by omega⟩ with hr
  have hrv : r.val = t.val * 128 + i.val := rfl
  have hA : AttnReferenceIdeal.Rowwise.attended z bias (ix2 r (hcol h d))
      = AttnMath.early (AttnReferenceIdeal.Rowwise.score z bias r (hcol h d))
        (AttnReferenceIdeal.Rowwise.value z r (hcol h d)) := rfl
  rw [hA, ← AttnMath.late_eq_early _ _ (score_ne_top hf r _) _ (score_own hf r _)]
  refine AttnMath.window (fun w => Valid (t.val % 16) i.val w.val)
    (fun w => ⟨(128 * (t.val % 16) + w.val - 512) % 2048, by omega⟩) ?_ ?_ ?_ ?_ ?_
  · rintro a b ⟨-, ha⟩ ⟨-, hb⟩ e
    have e := congrArg Fin.val e
    dsimp only at e
    exact Fin.ext (by omega)
  · rintro w hw
    have hs : AttnMath.Sees (r.val % 2048) ((128 * (t.val % 16) + w.val - 512) % 2048) := by
      obtain ⟨⟨h1, h2⟩, h3⟩ := hw
      constructor <;> omega
    rw [score_seen z bias r _ _ hs]
    dsimp only
    rw [hm, if_pos hw, add_zero, hb]
    obtain ⟨⟨h1, h2⟩, h3⟩ := hw
    refine congrArg₂ (· + ·) (congrArg (· * _) (Finset.sum_congr rfl fun e _ => ?_)) (congrArg bias ?_)
    · have he := hcv e
      rw [hq, hk _ _ h3]
      refine congrArg₂ (· * ·) (congrArg z (congrArg₂ ix2 (Fin.ext ?_) (Fin.ext ?_)))
        (congrArg z (congrArg₂ ix2 (Fin.ext ?_) (Fin.ext ?_))) <;> dsimp only <;> omega
    · have e1 : h = (⟨(hcol h d).val / 64, by omega⟩ : Fin 8) := Fin.ext (by dsimp only; omega)
      have e2 : i = (⟨r.val % 2048 % 128, by omega⟩ : Fin 128) := Fin.ext (by dsimp only; omega)
      have e3 : w = AttnMath.col (r.val % 2048) ((128 * (t.val % 16) + w.val - 512) % 2048) :=
        Fin.ext (by
          have a1 : (128 * (t.val % 16) + w.val - 512) % 2048 = 128 * (t.val % 16) + w.val - 512 := by omega
          have a2 : r.val % 2048 / 128 = t.val % 16 := by omega
          have hw := w.isLt
          dsimp only [AttnMath.col]
          rw [a1, a2]
          omega)
      rw [← e1, ← e2, ← e3]
  · rintro w ⟨⟨h1, h2⟩, h3⟩
    rw [hv _ _ h3]
    unfold AttnReferenceIdeal.Rowwise.value
    refine congrArg z (congrArg₂ ix2 (Fin.ext ?_) (Fin.ext ?_)) <;> dsimp only <;> omega
  · intro w hw
    rw [hm, if_neg hw, EReal.add_bot]
  · intro j hj
    refine if_neg fun hs => ?_
    have hs : j.val / 64 ≤ r.val % 2048 / 64 ∧ r.val % 2048 / 64 ≤ j.val / 64 + 8 := hs
    have hjl := j.isLt
    refine hj ⟨j.val + 512 - 128 * (t.val % 16), by omega⟩ ⟨⟨?_, ?_⟩, ?_⟩ (Fin.ext ?_) <;> dsimp only <;> omega

variable (m : (ℓ : Loc nD τ sig) → Buf (Elt Ideal) ℓ)

/-- What grid point `t` stores at `y` of its block is the reference at the place in the array where `y` stands. -/
theorem point (c : Dev nD) (hf : Finite (m ((c : Thread nD τ).loc main_arg0)) (m ((c : Thread nD τ).loc main_arg1)))
    (t : Fin cfg0.N) (y : S128x512.Idx) :
    out0_12 (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) y
    = AttnReferenceIdeal.Rowwise.attended (m ((c : Thread nD τ).loc main_arg0)) (m ((c : Thread nD τ).loc main_arg1))
        (((cfg0.win 12).blk t).view.emb y) := by
  have hp : ∃ (i : Fin 128) (h : Fin 8) (d : Fin 64), y = ix2 i (hcol h d) := by
    have hy := (y 1).isLt
    refine ⟨y 0, ⟨(y 1).val / 64, Nat.div_lt_of_lt_mul hy⟩, ⟨(y 1).val % 64, Nat.mod_lt _ (by decide)⟩, ?_⟩
    refine (eq_ix2 y).trans (congrArg (ix2 (y 0)) (Fin.ext ?_))
    exact (Nat.div_add_mod' _ _).symm
  obtain ⟨i, h, d, rfl⟩ := hp
  have hr : ((cfg0.win 12).blk t).view.emb (ix2 i (hcol h d)) = ix2 ⟨t.val * 128 + i.val, by
      have := t.isLt; have : cfg0.N = 256 := rfl; omega⟩ (hcol h d) := by
    refine (eq_ix2 _).trans (congrArg₂ ix2 (Fin.ext ?_) (Fin.ext ?_)) <;> blk_simp [idx t]
  rw [hr]
  unfold_out out0_12
  frame_out
  refine (heads _ _ _ _ _ _ _ h i d).trans ?_
  refine head_eq _ _ hf t h i d _ _ _ _ _ (fun e => ?_) (fun w e hw => keys_at m c t w e hw)
    (fun w e hw => values_at m c t w e hw) (fun w => mask_at t i w) (fun w => ?_)
  · blk_point [iblk, V, idx t]
  · blk_point [iblk, V, idx t]

/-- The array that the kernel leaves is the reference's result. -/
theorem final (c : Dev nD)
    (hf : Finite (m ((c : Thread nD τ).loc main_arg0)) (m ((c : Thread nD τ).loc main_arg1))) :
    (dats m 0 c).arrAt 12 (cfgs 0).N
    = AttnReferenceIdeal.Rowwise.attended (m ((c : Thread nD τ).loc main_arg0))
        (m ((c : Thread nD τ).loc main_arg1)) := by
  refine (dats m 0 c).arrAt_eq_of_covers 12 _ (by decide +kernel) fun t _ y => ?_
  blk_simp
  rw [after0_12]
  exact point m c hf t y

end Cert.AttnKernelIdeal.Rowwise

end
-- ==== Proof.AttnClaims.lean ====
/- The attention of the prompt: the claims. -/
module

public import proofs.«01_k».proof.Defs
public import proofs.«01_k».proof.Proof.AttnValue
public import proofs.«01_k».proof.Proof.Gen.AttnReferenceIdeal.Run
public import proofs.«01_k».proof.Proof.Gen.AttnKernel.Frame
public import Idealize.ShloMosaic.Lib.Quiescent

@[expose] public section

set_option maxRecDepth 16384

noncomputable section

namespace Cert.AttnClaims

open Idealize.ShloMosaic Idealize.ShloMosaic.TcCoe Idealize.SL.Sem

/-- The side conditions of the precondition's operations. -/
instance finiteFacts : Cert.Pre_attn_finite.Facts where
  slices_S32768x6144_S32768x1024_0_1536 := by decide
  bcast_S_S32768x1024 := by decide
  bcast_S_S8x128x640 := by decide

/-- A value whose magnitude is less than infinity is a real number. -/
theorem isReal_of_lt (x : EReal) (h : FloatOps.cmpf (F := Ideal) (φ := .f32) .olt (max x (-x))
    (Ideal.ofBits .f32 0x7F800000#32) = 1#1) : AttnMath.IsReal x := by
  rw [AttnMath.ofBits_inf, Ideal.cmpf_def] at h
  have hl : max x (-x) < ⊤ := by
    by_contra hn
    simp [Ideal.cmp, hn] at h
  induction x using EReal.rec with
  | bot => simp at hl
  | top => simp at hl
  | coe r => exact ⟨r, rfl⟩

/-- The precondition says that the queries, the keys and the bias table hold real numbers. -/
theorem finite (m : (ℓ : Loc Cert.AttnKernelIdeal.nD Cert.AttnKernelIdeal.τ Cert.AttnKernelIdeal.sig) → Buf (Elt Ideal) ℓ)
    (hp : Cert.Pre_AttnKernelIdeal_attn_finite m) (c : Dev Cert.AttnKernelIdeal.nD) :
    Cert.AttnKernelIdeal.Rowwise.Finite (m ((c : Thread Cert.AttnKernelIdeal.nD Cert.AttnKernelIdeal.τ).loc Cert.AttnKernelIdeal.main_arg0))
      (m ((c : Thread Cert.AttnKernelIdeal.nD Cert.AttnKernelIdeal.τ).loc Cert.AttnKernelIdeal.main_arg1)) := by
  obtain ⟨h0, h1⟩ := hp c
  unfold Cert.Pre_attn_finite.fn at h0 h1
  dsimp only at h0 h1
  refine ⟨fun r q => isReal_of_lt _ ?_, fun h i w => isReal_of_lt _ ?_⟩
  · have e := congrFun h0 (ix2 r q)
    revert e
    pointwise
    exact id
  · have e := congrFun h1 (ix3 h i w)
    revert e
    pointwise
    exact id

/-- The kernel at the bits runs and keeps its arguments. -/
theorem frame_p : Cert.quiescent_AttnKernel := fun m ρ _ => Cert.AttnKernel.Gen.frame m ρ

/-- The idealized kernel runs and keeps its arguments. -/
theorem frame_pi : Cert.quiescent_AttnKernelIdeal := fun m ρ _ => Cert.AttnKernelIdeal.Gen.frame m ρ

/-- So it does under the precondition. -/
theorem frame_pi_pre : Cert.quiescent_AttnKernelIdeal_pre_attn_finite := fun m ρ _ => Cert.AttnKernelIdeal.Gen.frame m ρ

/-- The reference runs and keeps its arguments. -/
theorem frame_ri : Cert.quiescent_AttnReferenceIdeal := fun m ρ _ =>
  (θ_run Cert.AttnReferenceIdeal.defs _ _).mono
    (fun r h => ⟨fun c => (h c).2, Idealize.ShloMosaic.sem_eq_zero_of_no_sems (by decide) r.2⟩)
    (Cert.AttnReferenceIdeal.Value.run (F := Ideal) m ρ)

/-- So it does under the precondition. -/
theorem frame_ri_pre : Cert.quiescent_AttnReferenceIdeal_pre_attn_finite := fun m ρ _ => frame_ri m ρ trivial

/-- Idealizing rewrote the mask's constant, `-1e30`, to `⊥`. -/
theorem preserves : Cert.preserves_AttnKernel_AttnKernelIdeal :=
  IdealRules.named_const.statement Cert.AttnKernelIdeal.κ "mask" .f32 0xF149F2CA#32 ⊥ rfl

/-- On extended reals the kernel's result is the reference's. -/
theorem algebraic : Cert.algebraic_AttnKernelIdeal_AttnReferenceIdeal_pre_attn_finite := by
  intro m ρ m' ρ' hp hagree
  refine ⟨_, (θ_run Cert.AttnKernelIdeal.defs _ _).mono
    (fun _ h c => ⟨(h c).1.trans (Cert.AttnKernelIdeal.Rowwise.final m c (finite m hp c)), (h c).2⟩)
    (Cert.AttnKernelIdeal.Value.run_blocks (F := Ideal) m ρ), ?_⟩
  refine (θ_run Cert.AttnReferenceIdeal.defs _ _).mono (fun _ h c => ⟨(h c).1.trans ?_, (h c).2⟩)
    (Cert.AttnReferenceIdeal.Value.run (F := Ideal) m' ρ')
  obtain ⟨e0, e1⟩ := hagree c
  rw [Cert.AttnReferenceIdeal.Rowwise.result, e0, e1]

end Cert.AttnClaims

end
-- ==== Proof.Rows.lean ====
/- Rows of numbers: the root mean square normalisation of a row, which several calls apply. -/
module

public import Idealize.ShloMosaic.PureOps.Ideal

@[expose] public section

noncomputable section

namespace Cert.Rows

open Idealize.ShloMosaic

/-- The reciprocal root mean square of a row of 1024 numbers, with the small constant under the root. -/
def rrms (v : Fin 1024 → EReal) : EReal :=
  Ideal.rsqrt (Ideal.div (∑ k, v k * v k) (Ideal.ofBits .f32 0x44800000#32) + Ideal.ofBits .f32 0x358637BD#32)

/-- A row divided by its root mean square and scaled entry by entry. -/
def normed (v w : Fin 1024 → EReal) (k : Fin 1024) : EReal := v k * rrms v * w k

end Cert.Rows

end
-- ==== Proof.InprojMath.lean ====
/- The input projection as a function of one row: what both programs compute. -/
module

public import proofs.«01_k».proof.Proof.Rows

@[expose] public section

noncomputable section

namespace Cert.InprojMath

open Idealize.ShloMosaic Cert.Rows

/-- The Gaussian error linear unit in its hyperbolic tangent form. -/
def gelu (z : EReal) : EReal :=
  z * (Ideal.ofBits .f32 0x3F000000#32 * (1 + Ideal.tanh (Ideal.ofBits .f32 0x3F4C422A#32
    * (z + Ideal.ofBits .f32 0x3D372713#32 * (z * z * z)))))

/-- The activation of column `q`: the first 1024 columns take the Gaussian unit, the next 2048 none,
    the gates after them the logistic function. -/
def act (q : ℕ) (z : EReal) : EReal :=
  if q < 1024 then gelu z else if q < 3072 then z else Ideal.logistic z

/-- Column `q` of a projected row: the normed row through the matrix, then the column's activation. -/
def out (x n : Fin 1024 → EReal) (w : Fin 1024 → Fin 6144 → EReal) (q : Fin 6144) : EReal :=
  act q.val (∑ d, normed x n d * w d q)

end Cert.InprojMath

end
-- ==== Proof.InprojRef.lean ====
/- The input projection: the reference's result at an index. -/
module

public import proofs.«01_k».proof.Proof.InprojMath
public import proofs.«01_k».proof.Proof.Gen.InprojReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.InprojReferenceIdeal.Rowwise

open Cert.InprojReferenceIdeal Cert.InprojReferenceIdeal.Gen Cert.InprojReferenceIdeal.Value
open Idealize.ShloMosaic Idealize.ShloMosaic.TcCoe Idealize.SL.Sem

/-- The projection over the whole array, row by row. -/
def projected (x : FVec Ideal S32768x1024 .f32) (n : FVec Ideal S1024 .f32) (w : FVec Ideal S1024x6144 .f32) :
    FVec Ideal S32768x6144 .f32 := fun j =>
  InprojMath.out (fun k => x (ix2 (j 0) k)) (fun k => n (ix1 k)) (fun d q => w (ix2 d q)) (j 1)

/-- The reference's result is that projection. -/
theorem result (m : (ℓ : Loc nD τ sig) → Buf (Elt Ideal) ℓ) (c : Dev nD) :
    res_main_v36 (F := Ideal) m c = projected (m ((c.tc : Thread nD τ).loc main_arg0))
      (m ((c.tc : Thread nD τ).loc main_arg1)) (m ((c.tc : Thread nD τ).loc main_arg2)) := by
  funext j
  obtain ⟨r, q, rfl⟩ : ∃ (r : Fin 32768) (q : Fin 6144), j = ix2 r q := ⟨j 0, j 1, eq_ix2 j⟩
  unfold res_main_v36
  clean_types
  pointwise [projected, InprojMath.out, InprojMath.act, InprojMath.gelu, Rows.normed, Rows.rrms, Ideal.logistic]
  by_cases h0 : q.val < 1024
  · rw [dif_pos h0, if_pos h0]
  · rw [dif_neg h0, if_neg h0]
    have e : ∀ (a : ℕ) (h : a = q.val) (g : a < 6144), (⟨a, g⟩ : Fin 6144) = q := fun a h _ => Fin.ext h
    by_cases h1 : q.val < 3072
    · rw [dif_pos (by omega), if_pos h1, e _ (by omega)]
    · rw [dif_neg (by omega), if_neg h1, e _ (by omega)]

end Cert.InprojReferenceIdeal.Rowwise

end
-- ==== Proof.InprojValue.lean ====
/- The input projection: what the kernel's scratch holds at a grid point, what each kind of grid point stores, and that
   the array the kernel leaves is the projection of every row. -/
module

public import proofs.«01_k».proof.Proof.InprojRef
public import proofs.«01_k».proof.Proof.Gen.InprojKernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Tactic.CleanTypes

@[expose] public section

set_option maxRecDepth 16384

noncomputable section

namespace Cert.InprojKernelIdeal.Rowwise

open Cert.InprojKernelIdeal Cert.InprojKernelIdeal.Gen Cert.InprojKernelIdeal.Value
open Idealize.ShloMosaic Idealize.ShloMosaic.TcCoe Idealize.SL.Sem
open Cert.InprojReferenceIdeal.Rowwise (projected)

/-- Where each window's block stands at grid point `t`. -/
theorem idx : ∀ t : Fin cfg0.N, win0_0.index t = ![t.val / 6, 0] ∧ win0_1.index t = ![0, 0]
    ∧ win0_2.index t = ![0, t.val % 6] ∧ win0_3.index t = ![t.val / 6, t.val % 6] :=
  (by decide +kernel : ∀ t : Fin grid0.N, _)

variable (m : (ℓ : Loc nD τ sig) → Buf (Elt Ideal) ℓ)

/-- The scratch holds, all along a run of six grid points, the normed rows of the run's row block. -/
theorem held (c : Dev nD) (t : Fin cfg0.N) :
    (outsAt0 m c t.val t.isLt).2
      = k0_pay1 (F := Ideal) (iblk m c 0 ⟨6 * (t.val / 6), Pipeline.run_start_lt t⟩)
          (iblk m c 1 ⟨6 * (t.val / 6), Pipeline.run_start_lt t⟩) := by
  refine Pipeline.eq_of_write_hold (fun n h => (outsAt0 m c n h).2) 6
    (fun t => k0_pay1 (F := Ideal) (iblk m c 0 t) (iblk m c 1 t)) (fun t h => ?_) (fun t h => ?_) t
  · rw [outsAt0_A m c t h h (by omega) (by omega)]
    frame_out
  · by_cases h2 : 1 ≤ t.val % 6 ∧ t.val % 6 ≤ 2
    · rw [outsAt0_B m c t h h h2 (by omega)]
      rfl
    · rw [outsAt0_C m c t h h h2 (by omega)]
      rfl

/-- The product that a grid point forms, at row `r` of its row block and column `q` of its column block. -/
theorem product (x : FVec Ideal S256x1024 .f32) (n : FVec Ideal S1x1024 .f32) (w : FVec Ideal S1024x1024 .bf16)
    (r : Fin 256) (q : Fin 1024) :
    k0_pay2 (F := Ideal) (k0_pay1 (F := Ideal) x n) w (ix2 r q)
      = ∑ d, Rows.normed (fun k => x (ix2 r k)) (fun k => n (ix2 0 k)) d * w (ix2 d q) := by
  pointwise [k0_pay2, k0_pay1, Rows.normed, Rows.rrms]

/-- At a later point of a run the scratch still holds what the point before left. -/
theorem kept (c : Dev nD) (t : Fin cfg0.N) (h : ¬t.val % 6 = 0) :
    (outsAt0 m c (t.val - 1) (Nat.lt_of_le_of_lt (Nat.sub_le _ _) t.isLt)).2 = (outsAt0 m c t.val t.isLt).2 := by
  by_cases h2 : 1 ≤ t.val % 6 ∧ t.val % 6 ≤ 2
  · rw [outsAt0_B m c t h h h2 (by omega)]
    rfl
  · rw [outsAt0_C m c t h h h2 (by omega)]
    rfl

/-- What a grid point leaves in its output block, by its place in the run: the product of the run's normed rows with
    the point's columns, under the activation of these columns. -/
theorem stored (c : Dev nD) (t : Fin cfg0.N) (r : Fin 256) (q : Fin 1024) :
    (show FVec Ideal S256x1024 .f32 from (outsAt0 m c t.val t.isLt).1) (ix2 r q)
    = InprojMath.act (t.val % 6 * 1024 + q.val)
        (k0_pay2 (F := Ideal) (outsAt0 m c t.val t.isLt).2 (iblk m c 2 t) (ix2 r q)) := by
  by_cases h0 : t.val % 6 = 0
  · rw [held]
    rw [outsAt0_A m c t h0 h0 (by omega) (by omega)]
    frame_out
    have e : (⟨6 * (t.val / 6), Pipeline.run_start_lt t⟩ : Fin cfg0.N) = t := Fin.ext (by show 6 * (t.val / 6) = _; omega)
    rw [e, InprojMath.act, if_pos (by omega)]
    pointwise [k0_pay3]
    generalize k0_pay2 (F := Ideal) _ _ _ = z
    rw [InprojMath.gelu, mul_comm (z * z) z]
  · rw [← kept m c t h0]
    by_cases h2 : 1 ≤ t.val % 6 ∧ t.val % 6 ≤ 2
    · rw [outsAt0_B m c t h0 h0 h2 (by omega)]
      frame_out
      simp only [read_unread_whole]
      rw [InprojMath.act, if_neg (by omega), if_pos (by omega)]
    · rw [outsAt0_C m c t h0 h0 h2 (by omega)]
      frame_out
      simp only [read_unread_whole]
      rw [InprojMath.act, if_neg (by omega), if_neg (by omega)]
      pointwise [k0_pay4]

/-- What grid point `t` leaves at `y` of its block is the projection at the place in the array where `y` stands. -/
theorem point (c : Dev nD) (t : Fin cfg0.N) (y : S256x1024.Idx) :
    (outsAt0 m c t.val t.isLt).1 y
    = projected (m ((c : Thread nD τ).loc main_arg0)) (m ((c : Thread nD τ).loc main_arg1))
        (m ((c : Thread nD τ).loc main_arg2)) (((cfg0.win 3).blk t).view.emb y) := by
  idx_vars y
  refine (stored m c t _ _).trans ?_
  rw [held, product]
  have e0 : (((cfg0.win 3).blk t).view.emb (ix2 y0 y1) 1).val = t.val % 6 * 1024 + y1.val := by blk_simp [idx t]
  simp only [projected, InprojMath.out]
  rw [e0]
  refine congrArg (InprojMath.act (t.val % 6 * 1024 + y1.val)) (Finset.sum_congr rfl fun d _ => ?_)
  simp only [Rows.normed, Rows.rrms]
  blk_point [iblk, V, idx t, idx ⟨6 * (t.val / 6), Pipeline.run_start_lt t⟩]

/-- The array that the kernel leaves is the projection of every row. -/
theorem final (c : Dev nD) :
    (dats m 0 c).arrAt 3 (cfgs 0).N
    = projected (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact point m c t y

end Cert.InprojKernelIdeal.Rowwise

end
-- ==== Proof.InprojClaims.lean ====
/- The input projection: the claims. -/
module

public import proofs.«01_k».proof.Defs
public import proofs.«01_k».proof.Proof.InprojValue
public import proofs.«01_k».proof.Proof.Gen.InprojKernel.Frame
public import Idealize.ShloMosaic.Lib.Quiescent

@[expose] public section

set_option maxRecDepth 16384

noncomputable section

namespace Cert.InprojClaims

open Idealize.ShloMosaic Idealize.ShloMosaic.TcCoe Idealize.SL.Sem

/-- The kernel at the bits runs and keeps its arguments. -/
theorem frame_p : Cert.quiescent_InprojKernel := fun m ρ _ => Cert.InprojKernel.Gen.frame m ρ

/-- The idealized kernel runs and keeps its arguments. -/
theorem frame_pi : Cert.quiescent_InprojKernelIdeal := fun m ρ _ => Cert.InprojKernelIdeal.Gen.frame m ρ

/-- The reference runs and keeps its arguments. -/
theorem frame_ri : Cert.quiescent_InprojReferenceIdeal := fun m ρ _ =>
  (θ_run Cert.InprojReferenceIdeal.defs _ _).mono (fun r h => ⟨fun c => (h c).2, Idealize.ShloMosaic.sem_eq_zero_of_no_sems (by decide) r.2⟩)
    (Cert.InprojReferenceIdeal.Value.run (F := Ideal) m ρ)

/-- Idealizing rewrote nothing. -/
theorem preserves : Cert.preserves_InprojKernel_InprojKernelIdeal := trivial

/-- On extended reals the kernel's result is the reference's. -/
theorem algebraic : Cert.algebraic_InprojKernelIdeal_InprojReferenceIdeal := by
  intro m ρ m' ρ' _ hagree
  refine ⟨_, (θ_run Cert.InprojKernelIdeal.defs _ _).mono (fun _ h c => ⟨(h c).1.trans (Cert.InprojKernelIdeal.Rowwise.final m c), (h c).2⟩)
    (Cert.InprojKernelIdeal.Value.run_blocks (F := Ideal) m ρ), ?_⟩
  refine (θ_run Cert.InprojReferenceIdeal.defs _ _).mono (fun _ h c => ⟨(h c).1.trans ?_, (h c).2⟩)
    (Cert.InprojReferenceIdeal.Value.run (F := Ideal) m' ρ')
  obtain ⟨e0, e1, e2⟩ := hagree c
  rw [Cert.InprojReferenceIdeal.Rowwise.result, e0, e1, e2]

end Cert.InprojClaims

end
-- ==== Proof.MergeValue.lean ====
/- The merge call: the block that a grid point writes, and the array after the run, as the plain
   reference's term over the argument arrays. -/
module

public import proofs.«01_k».proof.Proof.Gen.MergeKernelIdeal.Value
public import proofs.«01_k».proof.Proof.Gen.MergeReferenceIdeal.Run
public import Idealize.ShloMosaic.Lib.Pipeline.ValueKit
public import Idealize.ShloMosaic.Lib.Pointwise

@[expose] public section

set_option maxRecDepth 16384

noncomputable section

namespace Cert.MergeKernelIdeal.Merged

open Cert.MergeKernelIdeal Cert.MergeKernelIdeal.Gen Idealize.ShloMosaic Idealize.ShloMosaic.TcCoe Idealize.SL.Sem
open Idealize.ShloMosaic.Pipeline (Dat)

/-- The reference's result as one term over its arguments: the residual stream plus the gated sum of
    the three projected branches, sent through the output matrix. -/
def merged (ya yb yc : FVec Ideal MergeReferenceIdeal.S32768x512 .f32)
    (z : FVec Ideal MergeReferenceIdeal.S32768x6144 .f32) (x : FVec Ideal MergeReferenceIdeal.S32768x1024 .f32)
    (wb : FVec Ideal MergeReferenceIdeal.S3x512x1024 .f32) (wo : FVec Ideal MergeReferenceIdeal.S1024x1024 .f32) :
    FVec Ideal MergeReferenceIdeal.S32768x1024 .f32 :=
  addf x (Host.dotGeneral MergeReferenceIdeal.dot_S32768x1024_S1024x1024_S32768x1024_1_0_0_1_n_n none
    (Host.reduceAdd (mulf
      (shapeCast _ (extractStridedSlice MergeReferenceIdeal.S32768x3072 ![0, 3072] z
        MergeReferenceIdeal.Gen.slices_S32768x6144_S32768x3072_0_3072)
        MergeReferenceIdeal.Gen.shapeCasts_S32768x3072_S32768x3x1024)
      (transpose MergeReferenceIdeal.S32768x3x1024 [2, 0, 1]
        (Host.dotGeneral (φ₂ := .f32) MergeReferenceIdeal.dot_S3x512x1024_S32768x3x512_S3x1024x32768_1_2_2_0_0_1 none wb
          ((concatenate MergeReferenceIdeal.S32768x3x512 1
            [⟨MergeReferenceIdeal.S32768x1x512, ((broadcastInDim MergeReferenceIdeal.S32768x1x512 ![0, 2]
                MergeReferenceIdeal.Gen.bcast_S32768x512_S32768x1x512_0_2 ya) :
                (⟨MergeReferenceIdeal.S32768x1x512, .f32⟩ : BufTy).Contents (Elt Ideal))⟩,
             ⟨MergeReferenceIdeal.S32768x1x512, ((broadcastInDim MergeReferenceIdeal.S32768x1x512 ![0, 2]
                MergeReferenceIdeal.Gen.bcast_S32768x512_S32768x1x512_0_2 yb) :
                (⟨MergeReferenceIdeal.S32768x1x512, .f32⟩ : BufTy).Contents (Elt Ideal))⟩,
             ⟨MergeReferenceIdeal.S32768x1x512, ((broadcastInDim MergeReferenceIdeal.S32768x1x512 ![0, 2]
                MergeReferenceIdeal.Gen.bcast_S32768x512_S32768x1x512_0_2 yc) :
                (⟨MergeReferenceIdeal.S32768x1x512, .f32⟩ : BufTy).Contents (Elt Ideal))⟩]
            MergeReferenceIdeal.Gen.concatenates_S32768x1x512_S32768x1x512_S32768x1x512_S32768x3x512_d1 :
              (⟨MergeReferenceIdeal.S32768x3x512, .f32⟩ : BufTy).Contents (Elt Ideal))))
        MergeReferenceIdeal.Gen.transposes_S3x1024x32768_S32768x3x1024_2_0_1))
      (constant MergeReferenceIdeal.S_ .f32 0x00000000#32)
      MergeReferenceIdeal.Gen.reducesTo_S32768x3x1024_S32768x1024_d1 MergeReferenceIdeal.Gen.h_S_) wo)

/-- The reference at row `r` and column `q`, as sums of products. -/
theorem merged_at (ya yb yc : FVec Ideal MergeReferenceIdeal.S32768x512 .f32)
    (z : FVec Ideal MergeReferenceIdeal.S32768x6144 .f32) (x : FVec Ideal MergeReferenceIdeal.S32768x1024 .f32)
    (wb : FVec Ideal MergeReferenceIdeal.S3x512x1024 .f32) (wo : FVec Ideal MergeReferenceIdeal.S1024x1024 .f32)
    (r : Fin 32768) (q : Fin 1024) :
    merged ya yb yc z x wb wo (ix2 r q) = x (ix2 r q) + ∑ d : Fin 1024,
      (z (ix2 r ⟨3072 + d.val, by omega⟩) * (∑ e : Fin 512, ya (ix2 r e) * wb (ix3 0 e d))
        + z (ix2 r ⟨4096 + d.val, by omega⟩) * (∑ e : Fin 512, yb (ix2 r e) * wb (ix3 1 e d))
        + z (ix2 r ⟨5120 + d.val, by omega⟩) * (∑ e : Fin 512, yc (ix2 r e) * wb (ix3 2 e d)))
      * wo (ix2 d q) := by
  pointwise [merged]
  simp only [Fin.sum_univ_three]
  refine congrArg (x (ix2 r q) + ·) (Finset.sum_congr rfl fun d _ => ?_)
  refine congrArg (· * wo (ix2 d q)) ?_
  refine congrArg₂ (· + ·) (congrArg₂ (· + ·) ?_ ?_) ?_
  · refine congrArg₂ (· * ·) (congrArg (fun k => z (ix2 r k)) (Fin.ext ?_))
      (Finset.sum_congr rfl fun e _ => ?_)
    · show 3072 + (0 * 1024 + d.val) = 3072 + d.val
      omega
    · rw [dif_pos (by decide)]; exact mul_comm _ _
  · refine congrArg₂ (· * ·) (congrArg (fun k => z (ix2 r k)) (Fin.ext ?_))
      (Finset.sum_congr rfl fun e _ => ?_)
    · show 3072 + (1 * 1024 + d.val) = 4096 + d.val
      omega
    · rw [dif_neg (by decide), dif_pos (by decide)]; exact mul_comm _ _
  · refine congrArg₂ (· * ·) (congrArg (fun k => z (ix2 r k)) (Fin.ext ?_))
      (Finset.sum_congr rfl fun e _ => ?_)
    · show 3072 + (2 * 1024 + d.val) = 5120 + d.val
      omega
    · rw [dif_neg (by decide), dif_neg (by decide)]; exact mul_comm _ _

/-- Where each window's block stands at grid point `t`. -/
theorem idx : ∀ t : Fin cfg0.N, win0_0.index t = ![t.val, 0] ∧ win0_1.index t = ![t.val, 0]
    ∧ win0_2.index t = ![t.val, 0] ∧ win0_3.index t = ![t.val, 3] ∧ win0_4.index t = ![t.val, 4]
    ∧ win0_5.index t = ![t.val, 5] ∧ win0_6.index t = ![t.val, 0] ∧ win0_7.index t = ![0, 0, 0]
    ∧ win0_8.index t = ![0, 0] ∧ win0_9.index t = ![t.val, 0] :=
  (by decide +kernel : ∀ t : Fin grid0.N, _)

variable (m : (ℓ : Loc nD τ sig) → Buf (Elt Ideal) ℓ)

/-- What grid point `t` stores at `y` of its block is the reference at the place in the array where `y` stands. -/
theorem point (c : Dev nD) (t : Fin cfg0.N) (y : S256x1024.Idx) :
    out0_9 (iblk m c 0 t) (iblk m c 1 t) (iblk m c 2 t) (iblk m c 3 t) (iblk m c 4 t) (iblk m c 5 t)
      (iblk m c 6 t) (iblk m c 7 t) (iblk m c 8 t) y
    = merged (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (((cfg0.win 9).blk t).view.emb y) := by
  frame_out
  rw [eq_ix2 (((cfg0.win 9).blk t).view.emb y)]
  refine Eq.trans ?_ (merged_at ..).symm
  idx_vars y
  pointwise [k0_pay1]
  blk_point [iblk, V, idx t]

/-- The array that the kernel leaves is the reference's result. -/
theorem final (c : Dev nD) :
    (dats m 0 c).arrAt 9 (cfgs 0).N
    = merged (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 9 _ (by decide +kernel) fun t _ y => ?_
  blk_simp
  rw [after0_9]
  exact point m c t y

end Cert.MergeKernelIdeal.Merged
-- ==== Proof.MergeClaims.lean ====
/- The merge of the branches: the claims. -/
module

public import proofs.«01_k».proof.Defs
public import proofs.«01_k».proof.Proof.MergeValue
public import proofs.«01_k».proof.Proof.Gen.MergeReferenceIdeal.Run
public import proofs.«01_k».proof.Proof.Gen.MergeKernel.Frame
public import Idealize.ShloMosaic.Lib.Quiescent

@[expose] public section

set_option maxRecDepth 16384

noncomputable section

namespace Cert.MergeClaims

open Idealize.ShloMosaic Idealize.ShloMosaic.TcCoe Idealize.SL.Sem

/-- The kernel at the bits runs and keeps its arguments. -/
theorem frame_p : Cert.quiescent_MergeKernel := fun m ρ _ => Cert.MergeKernel.Gen.frame m ρ

/-- The idealized kernel runs and keeps its arguments. -/
theorem frame_pi : Cert.quiescent_MergeKernelIdeal := fun m ρ _ => Cert.MergeKernelIdeal.Gen.frame m ρ

/-- The reference runs and keeps its arguments. -/
theorem frame_ri : Cert.quiescent_MergeReferenceIdeal := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

/-- Idealizing rewrote nothing. -/
theorem preserves : Cert.preserves_MergeKernel_MergeKernelIdeal := trivial

/-- On extended reals the kernel's result is the reference's. -/
theorem algebraic : Cert.algebraic_MergeKernelIdeal_MergeReferenceIdeal := by
  intro m ρ m' ρ' _ hagree
  refine ⟨_, (θ_run Cert.MergeKernelIdeal.defs _ _).mono (fun _ h c => ⟨(h c).1.trans (Cert.MergeKernelIdeal.Merged.final m c), (h c).2⟩)
    (Cert.MergeKernelIdeal.Value.run_blocks (F := Ideal) m ρ), ?_⟩
  refine (θ_run Cert.MergeReferenceIdeal.defs _ _).mono (fun _ h c => ⟨(h c).1.trans ?_, (h c).2⟩)
    (Cert.MergeReferenceIdeal.Value.run (F := Ideal) m' ρ')
  obtain ⟨e0, e1, e2, e3, e4, e5, e6⟩ := hagree c
  rw [e0, e1, e2, e3, e4, e5, e6]
  rfl

end Cert.MergeClaims

end
-- ==== Proof.PleMath.lean ====
/- The per-layer embedding update as a function of one row: what both programs compute. -/
module

public import proofs.«01_k».proof.Proof.Rows

@[expose] public section

noncomputable section

namespace Cert.PleMath

open Idealize.ShloMosaic Cert.Rows

/-- The row `s` plus its gated embedding: the gate is the logistic of the normed row through the gate
    matrix, the embedding `p` goes through its projection. -/
def gated (s : Fin 1024 → EReal) (p : Fin 256 → EReal) (n : Fin 1024 → EReal) (gate : Fin 1024 → Fin 1024 → EReal)
    (proj : Fin 256 → Fin 1024 → EReal) (q : Fin 1024) : EReal :=
  s q + Ideal.logistic (∑ d, normed s n d * gate d q) * ∑ e, p e * proj e q

/-- The row after the update, normed once more by the layer's last norm `f`. -/
def out (s : Fin 1024 → EReal) (p : Fin 256 → EReal) (n : Fin 1024 → EReal) (gate : Fin 1024 → Fin 1024 → EReal)
    (proj : Fin 256 → Fin 1024 → EReal) (f : Fin 1024 → EReal) (q : Fin 1024) : EReal :=
  normed (gated s p n gate proj) f q

end Cert.PleMath

end
-- ==== Proof.PleRef.lean ====
/- The per-layer embedding update: the reference's result at an index. -/
module

public import proofs.«01_k».proof.Proof.PleMath
public import proofs.«01_k».proof.Proof.Gen.PleReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.PleReferenceIdeal.Rowwise

open Cert.PleReferenceIdeal Cert.PleReferenceIdeal.Gen Cert.PleReferenceIdeal.Value
open Idealize.ShloMosaic Idealize.ShloMosaic.TcCoe Idealize.SL.Sem

/-- The update over the whole arrays, row by row. -/
def updated (x y : FVec Ideal S32768x1024 .f32) (p : FVec Ideal S32768x256 .f32) (n : FVec Ideal S1024 .f32)
    (gate : FVec Ideal S1024x1024 .f32) (proj : FVec Ideal S256x1024 .f32) (f : FVec Ideal S1024 .f32) :
    FVec Ideal S32768x1024 .f32 := fun j =>
  PleMath.out (fun k => x (ix2 (j 0) k) + y (ix2 (j 0) k)) (fun e => p (ix2 (j 0) e)) (fun k => n (ix1 k))
    (fun d q => gate (ix2 d q)) (fun e q => proj (ix2 e q)) (fun k => f (ix1 k)) (j 1)

/-- The reference's result is that update. -/
theorem result (m : (ℓ : Loc nD τ sig) → Buf (Elt Ideal) ℓ) (c : Dev nD) :
    res_main_v36 (F := Ideal) m c = updated (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := by
  funext j
  obtain ⟨r, q, rfl⟩ : ∃ (r : Fin 32768) (q : Fin 1024), j = ix2 r q := ⟨j 0, j 1, eq_ix2 j⟩
  unfold res_main_v36
  clean_types
  pointwise [updated, PleMath.out, PleMath.gated, Rows.normed, Rows.rrms, Ideal.logistic]

end Cert.PleReferenceIdeal.Rowwise

end
-- ==== Proof.PleValue.lean ====
/- The per-layer embedding update: the block that a grid point writes, and the array after the run. -/
module

public import proofs.«01_k».proof.Proof.PleRef
public import proofs.«01_k».proof.Proof.Gen.PleKernelIdeal.Value
public import Idealize.ShloMosaic.Lib.Pipeline.ValueKit
public import Idealize.ShloMosaic.Lib.Pointwise

@[expose] public section

set_option maxRecDepth 16384

noncomputable section

namespace Cert.PleKernelIdeal.Rowwise

open Cert.PleKernelIdeal Cert.PleKernelIdeal.Gen Idealize.ShloMosaic Idealize.ShloMosaic.TcCoe Idealize.SL.Sem
open Idealize.ShloMosaic.Pipeline (Dat)
open Cert.PleReferenceIdeal.Rowwise (updated)

/-- Where each window's block stands at grid point `t`. -/
theorem idx : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0] ∧ win0_6.index t = ![0, 0] ∧ win0_7.index t = ![t.val, 0] :=
  (by decide +kernel : ∀ t : Fin grid0.N, _)

/-- What a block's payload holds at row `r` and column `q`: the update of that row. -/
theorem payload_at (x0 x1 : FVec Ideal S256x1024 .f32) (x2 : FVec Ideal S256x256 .f32) (x3 : FVec Ideal S1x1024 .f32)
    (x4 : FVec Ideal S1024x1024 .bf16) (x5 : FVec Ideal S256x1024 .bf16) (x6 : FVec Ideal S1x1024 .f32)
    (r : Fin 256) (q : Fin 1024) :
    k0_pay1 (k0_pay2 x0 x1 x3 x4 x2 x5) (k0_pay3 x6) (k0_pay4 x0 x1 x3 x4 x2 x5) (k0_pay5 (F := Ideal)) (ix2 r q)
    = PleMath.out (fun k => x0 (ix2 r k) + x1 (ix2 r k)) (fun e => x2 (ix2 r e)) (fun k => x3 (ix2 0 k))
      (fun d q => x4 (ix2 d q)) (fun e q => x5 (ix2 e q)) (fun k => x6 (ix2 0 k)) q := by
  pointwise [k0_pay1, k0_pay2, k0_pay3, k0_pay4, k0_pay5, PleMath.out, PleMath.gated, Rows.normed, Rows.rrms,
    Ideal.logistic]

variable (m : (ℓ : Loc nD τ sig) → Buf (Elt Ideal) ℓ)

/-- What grid point `t` stores at `y` of its block is the update at the place in the array where `y` stands. -/
theorem point (c : Dev nD) (t : Fin cfg0.N) (y : S256x1024.Idx) :
    out0_7 (iblk m c 0 t) (iblk m c 1 t) (iblk m c 2 t) (iblk m c 3 t) (iblk m c 4 t) (iblk m c 5 t) (iblk m c 6 t) y
    = updated (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (((cfg0.win 7).blk t).view.emb y) := by
  frame_out
  idx_vars y
  refine (payload_at ..).trans ?_
  unfold updated
  have hq : (((cfg0.win 7).blk t).view.emb (ix2 y0 y1)) 1 = y1 := by
    apply Fin.ext; blk_simp [idx t]
  rw [hq]
  blk_point [iblk, V, idx t]

/-- The array that the kernel leaves is the update of its arguments. -/
theorem final (c : Dev nD) :
    (dats m 0 c).arrAt 7 (cfgs 0).N
    = updated (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  exact point m c t y

end Cert.PleKernelIdeal.Rowwise

end
-- ==== Proof.PleClaims.lean ====
/- The per-layer embedding update: the claims. -/
module

public import proofs.«01_k».proof.Defs
public import proofs.«01_k».proof.Proof.PleValue
public import proofs.«01_k».proof.Proof.Gen.PleKernel.Frame
public import Idealize.ShloMosaic.Lib.Quiescent

@[expose] public section

set_option maxRecDepth 16384

noncomputable section

namespace Cert.PleClaims

open Idealize.ShloMosaic Idealize.ShloMosaic.TcCoe Idealize.SL.Sem

/-- The kernel at the bits runs and keeps its arguments. -/
theorem frame_p : Cert.quiescent_PleKernel := fun m ρ _ => Cert.PleKernel.Gen.frame m ρ

/-- The idealized kernel runs and keeps its arguments. -/
theorem frame_pi : Cert.quiescent_PleKernelIdeal := fun m ρ _ => Cert.PleKernelIdeal.Gen.frame m ρ

/-- The reference runs and keeps its arguments. -/
theorem frame_ri : Cert.quiescent_PleReferenceIdeal := fun m ρ _ =>
  (θ_run Cert.PleReferenceIdeal.defs _ _).mono (fun r h => ⟨fun c => (h c).2, Idealize.ShloMosaic.sem_eq_zero_of_no_sems (by decide) r.2⟩)
    (Cert.PleReferenceIdeal.Value.run (F := Ideal) m ρ)

/-- Idealizing rewrote nothing. -/
theorem preserves : Cert.preserves_PleKernel_PleKernelIdeal := trivial

/-- On extended reals the kernel's result is the reference's. -/
theorem algebraic : Cert.algebraic_PleKernelIdeal_PleReferenceIdeal := by
  intro m ρ m' ρ' _ hagree
  refine ⟨_, (θ_run Cert.PleKernelIdeal.defs _ _).mono (fun _ h c => ⟨(h c).1.trans (Cert.PleKernelIdeal.Rowwise.final m c), (h c).2⟩)
    (Cert.PleKernelIdeal.Value.run_blocks (F := Ideal) m ρ), ?_⟩
  refine (θ_run Cert.PleReferenceIdeal.defs _ _).mono (fun _ h c => ⟨(h c).1.trans ?_, (h c).2⟩)
    (Cert.PleReferenceIdeal.Value.run (F := Ideal) m' ρ')
  obtain ⟨e0, e1, e2, e3, e4, e5, e6⟩ := hagree c
  rw [Cert.PleReferenceIdeal.Rowwise.result, e0, e1, e2, e3, e4, e5, e6]

end Cert.PleClaims

end
-- ==== Proof.GmlpMath.lean ====
/- The spatial gating: the layer norm of a row of 512 numbers, and the mask over a chunk of 128 positions. -/
module

public import proofs.«01_k».proof.Proof.AttnWords
public import Idealize.ShloMosaic.PureOps.Ideal

@[expose] public section

noncomputable section

namespace Cert.GmlpMath

open Idealize.ShloMosaic

/-- A row's mean. -/
def mean (v : Fin 512 → EReal) : EReal := Ideal.div (∑ k, v k) (Ideal.ofBits .f32 0x44000000#32)

/-- A row less its mean. -/
def centered (v : Fin 512 → EReal) (k : Fin 512) : EReal := v k - mean v

/-- A row's layer norm: centered, divided by its standard deviation, scaled and shifted entry by entry. -/
def normed (v g b : Fin 512 → EReal) (k : Fin 512) : EReal :=
  centered v k * Ideal.rsqrt (mean (fun e => centered v e * centered v e) + Ideal.ofBits .f32 0x358637BD#32) * g k + b k

/-- Whether a position of a chunk of 128 reads another: it does within its own half and from the half before it. -/
def Reads (i j : ℕ) : Prop := j / 64 ≤ i / 64

instance (i j : ℕ) : Decidable (Reads i j) := inferInstanceAs (Decidable (j / 64 ≤ i / 64))

/-- A choice by a condition's word is the choice by the condition. -/
theorem select_ite (P : Prop) [Decidable P] (a b : EReal) :
    Scalar.select (if P then 1#1 else 0#1) a b = if P then a else b := by
  by_cases h : P
  · rw [if_pos h, if_pos h]
    rfl
  · rw [if_neg h, if_neg h]
    rfl

theorem leWord_eq : ∀ a b : Fin 2, IntOp.cmpi .sle (BitVec.ofNat 32 a.val) (BitVec.ofNat 32 b.val)
    = if a.val ≤ b.val then 1#1 else 0#1 := by
  decide +kernel

/-- The mask's word, as the programs compute it, is the mask. -/
theorem readsWord_eq (i j : Fin 128) :
    IntOp.cmpi .sle (AttnWords.chunkWord (BitVec.ofNat 32 j.val)) (AttnWords.chunkWord (BitVec.ofNat 32 i.val))
      = if Reads i.val j.val then 1#1 else 0#1 := by
  rw [AttnWords.chunkWord_eq ⟨j.val, by omega⟩, AttnWords.chunkWord_eq ⟨i.val, by omega⟩]
  exact leWord_eq ⟨j.val / 64, by omega⟩ ⟨i.val / 64, by omega⟩

/-- A sum over a block of 128 in which only one run of 16 counts is the sum over that run. -/
theorem sum_run (f : Fin 128 → EReal) (b : Fin 8) :
    (∑ j : Fin 128, if b.val = j.val / 16 then f j else 0) = ∑ j : Fin 16, f ⟨b.val * 16 + j.val, by omega⟩ := by
  rw [← Finset.sum_filter]
  refine Finset.sum_bij' (fun j _ => (⟨j.val % 16, by omega⟩ : Fin 16)) (fun j _ => ⟨b.val * 16 + j.val, by omega⟩)
    (fun _ _ => Finset.mem_univ _) (fun j _ => ?_) (fun j hj => ?_) (fun j _ => ?_) (fun j hj => ?_)
  · rw [Finset.mem_filter]
    exact ⟨Finset.mem_univ _, by show b.val = (b.val * 16 + j.val) / 16; omega⟩
  · have h := (Finset.mem_filter.mp hj).2
    apply Fin.ext
    show b.val * 16 + j.val % 16 = j.val
    omega
  · apply Fin.ext
    show (b.val * 16 + j.val) % 16 = j.val
    omega
  · have h := (Finset.mem_filter.mp hj).2
    refine congrArg f (Fin.ext ?_)
    show j.val = b.val * 16 + j.val % 16
    omega

/-- The unit matrix's entry, as the program computes it on words, is one on the diagonal and zero off it. -/
theorem eyeWord_eq : ∀ a b : Fin 8, IntOp.cmpi .eq (IntOp.addi (BitVec.ofNat 32 a.val) 0#32) (BitVec.ofNat 32 b.val)
    = if a.val = b.val then 1#1 else 0#1 := by
  decide +kernel

/-- The unit matrix's entry times a number is that number on the diagonal and zero off it. -/
theorem eye_mul (a b : Fin 8) (x : EReal) :
    FloatOps.uitofp (F := Ideal) .f32
      (IntOp.cmpi .eq (IntOp.addi (BitVec.ofNat 32 a.val) 0#32) (BitVec.ofNat 32 b.val)) * x
      = if a.val = b.val then x else 0 := by
  rw [eyeWord_eq]
  by_cases h : a.val = b.val
  · rw [if_pos h, if_pos h]
    show (((1#1 : BitVec 1).toNat : ℝ) : EReal) * x = x
    simp
  · rw [if_neg h, if_neg h]
    show (((0#1 : BitVec 1).toNat : ℝ) : EReal) * x = 0
    simp

end Cert.GmlpMath

end
-- ==== Proof.GmlpRef.lean ====
/- The spatial gating: the reference's result at an index. -/
module

public import proofs.«01_k».proof.Proof.GmlpMath
public import proofs.«01_k».proof.Proof.Gen.GmlpReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.GmlpReferenceIdeal.Rowwise

open Cert.GmlpReferenceIdeal Cert.GmlpReferenceIdeal.Gen Cert.GmlpReferenceIdeal.Value
open Idealize.ShloMosaic Idealize.ShloMosaic.TcCoe Idealize.SL.Sem

/-- The gating over the whole array: a position's channel times the bias plus the masked mix, over the positions of
    its chunk of 128, of the channel's normed values, with the weights of the channel's group. -/
def gated (z : FVec Ideal S32768x6144 .f32) (g b : FVec Ideal S512 .f32) (ws : FVec Ideal S4x128x128 .f32)
    (bs : FVec Ideal S4x128 .f32) : FVec Ideal S32768x512 .f32 := fun y =>
  let r : Fin 32768 := y 0
  let q : Fin 512 := y 1
  z (ix2 r ⟨q.val, by omega⟩) * ((∑ j : Fin 128,
      (if GmlpMath.Reads (r.val % 128) j.val then ws (ix3 ⟨q.val / 128, by omega⟩ ⟨r.val % 128, by omega⟩ j) else 0)
      * GmlpMath.normed (fun k => z (ix2 ⟨r.val / 128 * 128 + j.val, by omega⟩ ⟨512 + k.val, by omega⟩))
          (fun k => g (ix1 k)) (fun k => b (ix1 k)) q)
    + bs (ix2 ⟨q.val / 128, by omega⟩ ⟨r.val % 128, by omega⟩))

/-- The sign of the chunk's length. -/
theorem sign_at : signi (id (constantI S_ 32 64#32)) = fun _ => 1#32 := by
  funext x
  show (if (64#32 : BitVec 32) = 0 then (0 : BitVec 32) else if (64#32 : BitVec 32).msb = true then -1 else 1) = 1#32
  decide

/-- The mix from the normed values and the masked weights. -/
theorem mix_at (u : FVec Ideal S32768x512 .f32) (v : FVec Ideal S32768x512 .f32) (w : FVec Ideal S4x128x128 .f32)
    (bs : FVec Ideal S4x128 .f32) (r : Fin 32768) (q : Fin 512) :
    mulf u (shapeCast S32768x512 (addf (transpose S256x128x4x128 [1, 3, 0, 2]
        (Host.dotGeneral dot_S256x128x4x128_S4x128x128_S4x256x128x128_1_2_03_1_2_0 none
          (shapeCast S256x128x4x128 v shapeCasts_S32768x512_S256x128x4x128) w)
        transposes_S4x256x128x128_S256x128x4x128_1_3_0_2)
      (broadcastInDim S256x128x4x128 ![0, 1, 2, 3] bcast_S1x128x4x1_S256x128x4x128_0_1_2_3
        (broadcastInDim S1x128x4x1 ![1, 2] bcast_S128x4_S1x128x4x1_1_2
          (transpose S128x4 [1, 0] bs transposes_S4x128_S128x4_1_0)))) shapeCasts_S256x128x4x128_S32768x512) (ix2 r q)
      = u (ix2 r q) * ((∑ j : Fin 128, v (ix2 ⟨r.val / 128 * 128 + j.val, by omega⟩ q)
          * w (ix3 ⟨q.val / 128, by omega⟩ ⟨r.val % 128, by omega⟩ j))
        + bs (ix2 ⟨q.val / 128, by omega⟩ ⟨r.val % 128, by omega⟩)) := by
  pointwise

/-- The reference's result is that gating. -/
theorem result (m : (ℓ : Loc nD τ sig) → Buf (Elt Ideal) ℓ) (c : Dev nD) :
    res_main_v42 (F := Ideal) m c = gated (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) := by
  funext y
  obtain ⟨r, q, rfl⟩ : ∃ (r : Fin 32768) (q : Fin 512), y = ix2 r q := ⟨y 0, y 1, eq_ix2 y⟩
  unfold res_main_v42
  clean_types
  refine (mix_at ..).trans ?_
  simp only [gated]
  refine congrArg₂ (· * ·) ?_ (congrArg₂ (· + ·) (Finset.sum_congr rfl fun j _ => (mul_comm _ _).trans
    (congrArg₂ (· * ·) ?_ ?_)) rfl)
  · pointwise
  · rw [sign_at]
    pointwise [id]
    have ci := GmlpMath.readsWord_eq ⟨r.val % 128, by omega⟩ j
    unfold AttnWords.chunkWord at ci
    simp only [ci]
    exact GmlpMath.select_ite _ _ _
  · pointwise [GmlpMath.normed, GmlpMath.centered, GmlpMath.mean]

end Cert.GmlpReferenceIdeal.Rowwise

end
-- ==== Proof.GmlpValue.lean ====
/- The spatial gating: the block that a grid point writes, and the array after the run. -/
module

public import proofs.«01_k».proof.Proof.AttnBlock
public import proofs.«01_k».proof.Proof.GmlpRef
public import proofs.«01_k».proof.Proof.Gen.GmlpKernelIdeal.Value
public import Idealize.ShloMosaic.Lib.Pipeline.ValueKit
public import Idealize.ShloMosaic.Lib.Pointwise
public import Idealize.ShloMosaic.Lib.Tactic.CleanTypes

@[expose] public section

set_option maxRecDepth 16384

noncomputable section

namespace Cert.GmlpKernelIdeal.Rowwise

open Cert.GmlpKernelIdeal Cert.GmlpKernelIdeal.Gen Idealize.ShloMosaic Idealize.ShloMosaic.TcCoe Idealize.SL.Sem
open Idealize.ShloMosaic.Pipeline (Dat)
open Cert.GmlpReferenceIdeal.Rowwise (gated)
open Cert.AttnKernelIdeal.Rowwise (ite_same)

/-- Where each window's block stands at grid point `t`. -/
theorem idx : ∀ t : Fin cfg0.N, win0_0.index t = ![t.val, 0] ∧ win0_1.index t = ![t.val, 1]
    ∧ win0_2.index t = ![0, 0] ∧ win0_3.index t = ![0, 0] ∧ win0_4.index t = ![0, 0, 0]
    ∧ win0_5.index t = ![0, 0] ∧ win0_6.index t = ![t.val, 0] :=
  (by decide +kernel : ∀ t : Fin grid0.N, _)

/-- The normed values of a block, at row `j` and column `q`. -/
theorem normed_at (v : FVec Ideal S128x512 .f32) (g b : FVec Ideal S1x512 .f32) (j : Fin 128) (q : Fin 512) :
    k0_pay2 (F := Ideal) v g b (ix2 j q) = GmlpMath.normed (fun k => v (ix2 j k)) (fun k => g (ix2 0 k)) (fun k => b (ix2 0 k)) q := by
  pointwise [k0_pay2, GmlpMath.normed, GmlpMath.centered, GmlpMath.mean]

/-- A block's store at row `i` and column `q`, from the block's rows, the weights and the bias rows. -/
theorem block_at (u v : FVec Ideal S128x512 .f32) (g b : FVec Ideal S1x512 .f32) (w : FVec Ideal S4x128x128 .bf16)
    (bias : FVec Ideal S128x512 .f32) (i : Fin 128) (q : Fin 512) :
    out0_6 (F := Ideal) u v g b w bias (ix2 i q)
    = u (ix2 i q) * ((∑ j : Fin 128, w (ix3 ⟨q.val / 128, by omega⟩ i j)
        * GmlpMath.normed (fun k => v (ix2 j k)) (fun k => g (ix2 0 k)) (fun k => b (ix2 0 k)) q) + bias (ix2 i q)) := by
  simp only [← normed_at]
  frame_out
  generalize hR : (∑ j : Fin 128, w (ix3 ⟨q.val / 128, by omega⟩ i j) * k0_pay2 (F := Ideal) v g b (ix2 j q)) = R
  have e : ∀ (a : Fin 4) (x : ℕ) (h : x < 512), a.val = q.val / 128 → x = q.val →
      (∑ j : Fin 128, w (ix3 a i j) * k0_pay2 (F := Ideal) v g b (ix2 j ⟨x, h⟩)) = R := by
    intro a x h ha hx
    subst hx
    rw [← hR]
    exact Finset.sum_congr rfl fun j _ => congrArg (fun a => w (ix3 a i j) * k0_pay2 (F := Ideal) v g b (ix2 j q)) (Fin.ext ha)
  pointwise [k0_pay1, k0_pay3, k0_pay4, k0_pay5, k0_pay6]
  refine congrArg (fun x => u (ix2 i q) * (x + bias (ix2 i q))) ?_
  refine ite_same (fun h0 => e 0 q.val q.isLt (show 0 = q.val / 128 by omega) rfl) fun h0 => ?_
  refine ite_same (fun h1 => e 1 (128 + (q.val - 128)) (by omega) (show 1 = q.val / 128 by omega) (by omega)) fun h1 => ?_
  refine ite_same (fun h2 => e 2 (256 + (q.val - 128 - 128)) (by omega) (show 2 = q.val / 128 by omega) (by omega)) fun h2 => ?_
  exact e 3 (384 + (q.val - 128 - 128 - 128)) (by omega) (show 3 = q.val / 128 by omega) (by omega)

variable (m : (ℓ : Loc nD τ sig) → Buf (Elt Ideal) ℓ)

/-- The masked weights that the program prepares. -/
theorem weights_at (c : Dev nD) (a : Fin 4) (i j : Fin 128) :
    (show FVec Ideal S4x128x128 .bf16 from V m c main_v10) (ix3 a i j)
    = if GmlpMath.Reads i.val j.val then
        (show FVec Ideal S4x128x128 .f32 from m ((c : Thread nD τ).loc main_arg3)) (ix3 a i j) else 0 := by
  simp only [V, hostOps0, hostOps0_1, hostOps0_2, hostOps0_3, hostOps0_4, hostOps0_5, hostOps0_6, List.flatten_cons,
    List.flatten_nil, List.append_nil, List.cons_append, List.nil_append]
  after_results_simp
  simp only [StableHlo.TRef.ofBuf_toBuf]
  simp only [StableHlo.TRef.ofBuf, StableHlo.TRef.toBuf]
  repeat rw [cast_eq]
  rw [Cert.GmlpReferenceIdeal.Rowwise.sign_at]
  pointwise [id]
  have ci := GmlpMath.readsWord_eq i j
  unfold AttnWords.chunkWord at ci
  simp only [ci]
  exact GmlpMath.select_ite _ _ _

/-- The bias that the program prepares. -/
theorem bias_at (c : Dev nD) (i : Fin 128) (q : Fin 512) :
    (show FVec Ideal S128x512 .f32 from V m c main_v13) (ix2 i q)
    = (show FVec Ideal S4x128 .f32 from m ((c : Thread nD τ).loc main_arg4)) (ix2 ⟨q.val / 128, by omega⟩ i) := by
  simp only [V, hostOps0, hostOps0_1, hostOps0_2, hostOps0_3, hostOps0_4, hostOps0_5, hostOps0_6, List.flatten_cons,
    List.flatten_nil, List.append_nil, List.cons_append, List.nil_append]
  after_results_simp
  clean_types
  pointwise

/-- The layer norm's scale and shift that the program prepares. -/
theorem rows_at (c : Dev nD) (k : Fin 512) :
    (show FVec Ideal S1x512 .f32 from V m c main_v14) (ix2 0 k)
      = (show FVec Ideal S512 .f32 from m ((c : Thread nD τ).loc main_arg1)) (ix1 k)
    ∧ (show FVec Ideal S1x512 .f32 from V m c main_v15) (ix2 0 k)
      = (show FVec Ideal S512 .f32 from m ((c : Thread nD τ).loc main_arg2)) (ix1 k) := by
  simp only [V, hostOps0, hostOps0_1, hostOps0_2, hostOps0_3, hostOps0_4, hostOps0_5, hostOps0_6, List.flatten_cons,
    List.flatten_nil, List.append_nil, List.cons_append, List.nil_append]
  after_results_simp
  constructor
  · clean_types
    pointwise
  · clean_types
    pointwise

/-- What grid point `t` stores at `y` of its block is the gating at the place in the array where `y` stands. -/
theorem point (c : Dev nD) (t : Fin cfg0.N) (y : S128x512.Idx) :
    out0_6 (iblk m c 0 t) (iblk m c 1 t) (iblk m c 2 t) (iblk m c 3 t) (iblk m c 4 t) (iblk m c 5 t) y
    = gated (m ((c : Thread nD τ).loc main_arg0)) (m ((c : Thread nD τ).loc main_arg1))
        (m ((c : Thread nD τ).loc main_arg2)) (m ((c : Thread nD τ).loc main_arg3))
        (m ((c : Thread nD τ).loc main_arg4)) (((cfg0.win 6).blk t).view.emb y) := by
  idx_vars y
  refine (block_at ..).trans ?_
  have hw : ∀ (a : Fin 4) (i j : Fin 128), iblk m c 4 t (ix3 a i j)
      = (show FVec Ideal S4x128x128 .bf16 from V m c main_v10) (ix3 a i j) := by
    intro a i j
    blk_point [iblk, idx t]
  have hb : iblk m c 5 t (ix2 y0 y1) = (show FVec Ideal S128x512 .f32 from V m c main_v13) (ix2 y0 y1) := by
    blk_point [iblk, idx t]
  have hq : (((cfg0.win 6).blk t).view.emb (ix2 y0 y1)) 1 = y1 := by
    apply Fin.ext; blk_simp [idx t]
  have hr : ((((cfg0.win 6).blk t).view.emb (ix2 y0 y1)) 0).val = t.val * 128 + y0.val := by
    blk_simp [idx t]
  have hlt : ((((cfg0.win 6).blk t).view.emb (ix2 y0 y1)) 0).val < 32768 := Fin.isLt (n := 32768) _
  have hi : (⟨((((cfg0.win 6).blk t).view.emb (ix2 y0 y1)) 0).val % 128, by omega⟩ : Fin 128) = y0 := by
    apply Fin.ext; show _ % 128 = _; omega
  unfold gated
  simp only [hq, hi]
  refine congrArg₂ (· * ·) ?_ (congrArg₂ (· + ·) (Finset.sum_congr rfl fun j _ => congrArg₂ (· * ·) ?_ ?_) ?_)
  · blk_point [iblk, V, idx t]
  · refine ((hw _ _ _).trans (weights_at m c _ _ _)).trans ?_
    rw [show ((((cfg0.win 6).blk t).view.emb (ix2 y0 y1)) 0).val % 128 = y0.val from congrArg Fin.val hi]
  · have hv : ∀ (j : Fin 128) (k : Fin 512), iblk m c 1 t (ix2 j k)
        = (show FVec Ideal S32768x6144 .f32 from m ((c : Thread nD τ).loc main_arg0))
          (ix2 ⟨((((cfg0.win 6).blk t).view.emb (ix2 y0 y1)) 0).val / 128 * 128 + j.val, by omega⟩
            ⟨512 + k.val, by omega⟩) := by
      intro j k
      blk_point [iblk, V, idx t]
    have hg : ∀ k : Fin 512, iblk m c 2 t (ix2 0 k)
        = (show FVec Ideal S512 .f32 from m ((c : Thread nD τ).loc main_arg1)) (ix1 k) := by
      intro k
      refine Eq.trans (b := (show FVec Ideal S1x512 .f32 from V m c main_v14) (ix2 0 k)) ?_ (rows_at m c k).1
      blk_point [iblk, idx t]
    have hs : ∀ k : Fin 512, iblk m c 3 t (ix2 0 k)
        = (show FVec Ideal S512 .f32 from m ((c : Thread nD τ).loc main_arg2)) (ix1 k) := by
      intro k
      refine Eq.trans (b := (show FVec Ideal S1x512 .f32 from V m c main_v15) (ix2 0 k)) ?_ (rows_at m c k).2
      blk_point [iblk, idx t]
    simp only [hv, hg, hs]
  · exact hb.trans (bias_at m c _ _)

/-- The array that the kernel leaves is the gating of its arguments. -/
theorem final (c : Dev nD) :
    (dats m 0 c).arrAt 6 (cfgs 0).N
    = gated (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 6 _ (by decide +kernel) fun t _ y => ?_
  blk_simp
  rw [after0_6]
  exact point m c t y

end Cert.GmlpKernelIdeal.Rowwise

end
-- ==== Proof.GmlpClaims.lean ====
/- The spatial gating: the claims. -/
module

public import proofs.«01_k».proof.Defs
public import proofs.«01_k».proof.Proof.GmlpValue
public import proofs.«01_k».proof.Proof.Gen.GmlpKernel.Frame
public import Idealize.ShloMosaic.Lib.Quiescent

@[expose] public section

set_option maxRecDepth 16384

noncomputable section

namespace Cert.GmlpClaims

open Idealize.ShloMosaic Idealize.ShloMosaic.TcCoe Idealize.SL.Sem

/-- The kernel at the bits runs and keeps its arguments. -/
theorem frame_p : Cert.quiescent_GmlpKernel := fun m ρ _ => Cert.GmlpKernel.Gen.frame m ρ

/-- The idealized kernel runs and keeps its arguments. -/
theorem frame_pi : Cert.quiescent_GmlpKernelIdeal := fun m ρ _ => Cert.GmlpKernelIdeal.Gen.frame m ρ

/-- The reference runs and keeps its arguments. -/
theorem frame_ri : Cert.quiescent_GmlpReferenceIdeal := fun m ρ _ =>
  (θ_run Cert.GmlpReferenceIdeal.defs _ _).mono (fun r h => ⟨fun c => (h c).2, Idealize.ShloMosaic.sem_eq_zero_of_no_sems (by decide) r.2⟩)
    (Cert.GmlpReferenceIdeal.Value.run (F := Ideal) m ρ)

/-- Idealizing rewrote nothing. -/
theorem preserves : Cert.preserves_GmlpKernel_GmlpKernelIdeal := trivial

/-- On extended reals the kernel's result is the reference's. -/
theorem algebraic : Cert.algebraic_GmlpKernelIdeal_GmlpReferenceIdeal := by
  intro m ρ m' ρ' _ hagree
  refine ⟨_, (θ_run Cert.GmlpKernelIdeal.defs _ _).mono (fun _ h c => ⟨(h c).1.trans (Cert.GmlpKernelIdeal.Rowwise.final m c), (h c).2⟩)
    (Cert.GmlpKernelIdeal.Value.run_blocks (F := Ideal) m ρ), ?_⟩
  refine (θ_run Cert.GmlpReferenceIdeal.defs _ _).mono (fun _ h c => ⟨(h c).1.trans ?_, (h c).2⟩)
    (Cert.GmlpReferenceIdeal.Value.run (F := Ideal) m' ρ')
  obtain ⟨e0, e1, e2, e3, e4⟩ := hagree c
  rw [Cert.GmlpReferenceIdeal.Rowwise.result, e0, e1, e2, e3, e4]

end Cert.GmlpClaims

end
-- ==== Proof.SampleInprojRef.lean ====
/- The input projection of the sample: the reference's result at an index. -/
module

public import proofs.«01_k».proof.Proof.InprojMath
public import proofs.«01_k».proof.Proof.Gen.SampleInprojReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.SampleInprojReferenceIdeal.Rowwise

open Cert.SampleInprojReferenceIdeal Cert.SampleInprojReferenceIdeal.Gen Cert.SampleInprojReferenceIdeal.Value
open Idealize.ShloMosaic Idealize.ShloMosaic.TcCoe Idealize.SL.Sem

/-- The projection over the whole array, row by row. -/
def projected (x : FVec Ideal S256x1024 .f32) (n : FVec Ideal S1024 .f32) (w : FVec Ideal S1024x6144 .f32) :
    FVec Ideal S256x6144 .f32 := fun j =>
  InprojMath.out (fun k => x (ix2 (j 0) k)) (fun k => n (ix1 k)) (fun d q => w (ix2 d q)) (j 1)

/-- The reference's result is that projection. -/
theorem result (m : (ℓ : Loc nD τ sig) → Buf (Elt Ideal) ℓ) (c : Dev nD) :
    res_main_v36 (F := Ideal) m c = projected (m ((c.tc : Thread nD τ).loc main_arg0))
      (m ((c.tc : Thread nD τ).loc main_arg1)) (m ((c.tc : Thread nD τ).loc main_arg2)) := by
  funext j
  obtain ⟨r, q, rfl⟩ : ∃ (r : Fin 256) (q : Fin 6144), j = ix2 r q := ⟨j 0, j 1, eq_ix2 j⟩
  unfold res_main_v36
  clean_types
  pointwise [projected, InprojMath.out, InprojMath.act, InprojMath.gelu, Rows.normed, Rows.rrms, Ideal.logistic]
  by_cases h0 : q.val < 1024
  · rw [dif_pos h0, if_pos h0]
  · rw [dif_neg h0, if_neg h0]
    have e : ∀ (a : ℕ) (h : a = q.val) (g : a < 6144), (⟨a, g⟩ : Fin 6144) = q := fun a h _ => Fin.ext h
    by_cases h1 : q.val < 3072
    · rw [dif_pos (by omega), if_pos h1, e _ (by omega)]
    · rw [dif_neg (by omega), if_neg h1, e _ (by omega)]

end Cert.SampleInprojReferenceIdeal.Rowwise

end
-- ==== Proof.SampleInprojValue.lean ====
/- The input projection of the sample: what the kernel's scratch holds at a grid point, what each kind of grid point stores, and that
   the array the kernel leaves is the projection of every row. -/
module

public import proofs.«01_k».proof.Proof.InprojValue
public import proofs.«01_k».proof.Proof.SampleInprojRef
public import proofs.«01_k».proof.Proof.Gen.SampleInprojKernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Tactic.CleanTypes

@[expose] public section

set_option maxRecDepth 16384

noncomputable section

namespace Cert.SampleInprojKernelIdeal.Rowwise

open Cert.SampleInprojKernelIdeal Cert.SampleInprojKernelIdeal.Gen Cert.SampleInprojKernelIdeal.Value
open Idealize.ShloMosaic Idealize.ShloMosaic.TcCoe Idealize.SL.Sem
open Cert.SampleInprojReferenceIdeal.Rowwise (projected)

/-- Where each window's block stands at grid point `t`. -/
theorem idx : ∀ t : Fin cfg0.N, win0_0.index t = ![t.val / 6, 0] ∧ win0_1.index t = ![0, 0]
    ∧ win0_2.index t = ![0, t.val % 6] ∧ win0_3.index t = ![t.val / 6, t.val % 6] :=
  (by decide +kernel : ∀ t : Fin grid0.N, _)

/-- The grid has six points, all of one run. -/
theorem lt_six (t : Fin cfg0.N) : t.val < 6 := lt_of_lt_of_eq t.isLt (show cfg0.N = 6 from N_0)

variable (m : (ℓ : Loc nD τ sig) → Buf (Elt Ideal) ℓ)

/-- The scratch holds, all along a run of six grid points, the normed rows of the run's row block. -/
theorem held (c : Dev nD) (t : Fin cfg0.N) :
    (outsAt0 m c t.val t.isLt).2
      = k0_pay1 (F := Ideal) (iblk m c 0 ⟨6 * (t.val / 6), Pipeline.run_start_lt t⟩)
          (iblk m c 1 ⟨6 * (t.val / 6), Pipeline.run_start_lt t⟩) := by
  refine Pipeline.eq_of_write_hold (fun n h => (outsAt0 m c n h).2) 6
    (fun t => k0_pay1 (F := Ideal) (iblk m c 0 t) (iblk m c 1 t)) (fun t h => ?_) (fun t h => ?_) t <;>
    have := lt_six t
  · rw [outsAt0_A m c t h h (by omega) (by omega)]
    frame_out
  · by_cases h2 : 1 ≤ t.val % 6 ∧ t.val % 6 ≤ 2
    · rw [outsAt0_B m c t h h h2 (by omega)]
      rfl
    · rw [outsAt0_C m c t h h h2 (by omega)]
      rfl

/-- At a later point of a run the scratch still holds what the point before left. -/
theorem kept (c : Dev nD) (t : Fin cfg0.N) (h : ¬t.val % 6 = 0) :
    (outsAt0 m c (t.val - 1) (Nat.lt_of_le_of_lt (Nat.sub_le _ _) t.isLt)).2 = (outsAt0 m c t.val t.isLt).2 := by
  have := lt_six t
  by_cases h2 : 1 ≤ t.val % 6 ∧ t.val % 6 ≤ 2
  · rw [outsAt0_B m c t h h h2 (by omega)]
    rfl
  · rw [outsAt0_C m c t h h h2 (by omega)]
    rfl

/-- What a grid point leaves in its output block, by its place in the run: the product of the run's normed rows with
    the point's columns, under the activation of these columns. -/
theorem stored (c : Dev nD) (t : Fin cfg0.N) (r : Fin 256) (q : Fin 1024) :
    (show FVec Ideal S256x1024 .f32 from (outsAt0 m c t.val t.isLt).1) (ix2 r q)
    = InprojMath.act (t.val % 6 * 1024 + q.val)
        (k0_pay2 (F := Ideal) (outsAt0 m c t.val t.isLt).2 (iblk m c 2 t) (ix2 r q)) := by
  have := lt_six t
  by_cases h0 : t.val % 6 = 0
  · rw [held]
    rw [outsAt0_A m c t h0 h0 (by omega) (by omega)]
    frame_out
    have e : (⟨6 * (t.val / 6), Pipeline.run_start_lt t⟩ : Fin cfg0.N) = t := Fin.ext (by show 6 * (t.val / 6) = _; omega)
    rw [e, InprojMath.act, if_pos (by omega)]
    pointwise [k0_pay3]
    generalize k0_pay2 (F := Ideal) _ _ _ = z
    rw [InprojMath.gelu, mul_comm (z * z) z]
  · rw [← kept m c t h0]
    by_cases h2 : 1 ≤ t.val % 6 ∧ t.val % 6 ≤ 2
    · rw [outsAt0_B m c t h0 h0 h2 (by omega)]
      frame_out
      simp only [read_unread_whole]
      rw [InprojMath.act, if_neg (by omega), if_pos (by omega)]
    · rw [outsAt0_C m c t h0 h0 h2 (by omega)]
      frame_out
      simp only [read_unread_whole]
      rw [InprojMath.act, if_neg (by omega), if_neg (by omega)]
      pointwise [k0_pay4]

/-- What grid point `t` leaves at `y` of its block is the projection at the place in the array where `y` stands. -/
theorem point (c : Dev nD) (t : Fin cfg0.N) (y : S256x1024.Idx) :
    (outsAt0 m c t.val t.isLt).1 y
    = projected (m ((c : Thread nD τ).loc main_arg0)) (m ((c : Thread nD τ).loc main_arg1))
        (m ((c : Thread nD τ).loc main_arg2)) (((cfg0.win 3).blk t).view.emb y) := by
  idx_vars y
  refine (stored m c t _ _).trans ?_
  rw [held]
  rw [show k0_pay2 (F := Ideal) (k0_pay1 (F := Ideal) (iblk m c 0 ⟨6 * (t.val / 6), Pipeline.run_start_lt t⟩)
      (iblk m c 1 ⟨6 * (t.val / 6), Pipeline.run_start_lt t⟩)) (iblk m c 2 t) (ix2 y0 y1) = _
    from Cert.InprojKernelIdeal.Rowwise.product _ _ _ y0 y1]
  have e0 : (((cfg0.win 3).blk t).view.emb (ix2 y0 y1) 1).val = t.val % 6 * 1024 + y1.val := by blk_simp [idx t]
  simp only [projected, InprojMath.out]
  rw [e0]
  refine congrArg (InprojMath.act (t.val % 6 * 1024 + y1.val)) (Finset.sum_congr rfl fun d _ => ?_)
  simp only [Rows.normed, Rows.rrms]
  blk_point [iblk, V, idx t, idx ⟨6 * (t.val / 6), Pipeline.run_start_lt t⟩]

/-- The array that the kernel leaves is the projection of every row. -/
theorem final (c : Dev nD) :
    (dats m 0 c).arrAt 3 (cfgs 0).N
    = projected (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact point m c t y

end Cert.SampleInprojKernelIdeal.Rowwise

end
-- ==== Proof.SampleInprojClaims.lean ====
/- The input projection of the sample: the claims. -/
module

public import proofs.«01_k».proof.Defs
public import proofs.«01_k».proof.Proof.SampleInprojValue
public import proofs.«01_k».proof.Proof.Gen.SampleInprojKernel.Frame
public import Idealize.ShloMosaic.Lib.Quiescent

@[expose] public section

set_option maxRecDepth 16384

noncomputable section

namespace Cert.SampleInprojClaims

open Idealize.ShloMosaic Idealize.ShloMosaic.TcCoe Idealize.SL.Sem

/-- The kernel at the bits runs and keeps its arguments. -/
theorem frame_p : Cert.quiescent_SampleInprojKernel := fun m ρ _ => Cert.SampleInprojKernel.Gen.frame m ρ

/-- The idealized kernel runs and keeps its arguments. -/
theorem frame_pi : Cert.quiescent_SampleInprojKernelIdeal := fun m ρ _ => Cert.SampleInprojKernelIdeal.Gen.frame m ρ

/-- The reference runs and keeps its arguments. -/
theorem frame_ri : Cert.quiescent_SampleInprojReferenceIdeal := fun m ρ _ =>
  (θ_run Cert.SampleInprojReferenceIdeal.defs _ _).mono (fun r h => ⟨fun c => (h c).2, Idealize.ShloMosaic.sem_eq_zero_of_no_sems (by decide) r.2⟩)
    (Cert.SampleInprojReferenceIdeal.Value.run (F := Ideal) m ρ)

/-- Idealizing rewrote nothing. -/
theorem preserves : Cert.preserves_SampleInprojKernel_SampleInprojKernelIdeal := trivial

/-- On extended reals the kernel's result is the reference's. -/
theorem algebraic : Cert.algebraic_SampleInprojKernelIdeal_SampleInprojReferenceIdeal := by
  intro m ρ m' ρ' _ hagree
  refine ⟨_, (θ_run Cert.SampleInprojKernelIdeal.defs _ _).mono (fun _ h c => ⟨(h c).1.trans (Cert.SampleInprojKernelIdeal.Rowwise.final m c), (h c).2⟩)
    (Cert.SampleInprojKernelIdeal.Value.run_blocks (F := Ideal) m ρ), ?_⟩
  refine (θ_run Cert.SampleInprojReferenceIdeal.defs _ _).mono (fun _ h c => ⟨(h c).1.trans ?_, (h c).2⟩)
    (Cert.SampleInprojReferenceIdeal.Value.run (F := Ideal) m' ρ')
  obtain ⟨e0, e1, e2⟩ := hagree c
  rw [Cert.SampleInprojReferenceIdeal.Rowwise.result, e0, e1, e2]

end Cert.SampleInprojClaims

end
-- ==== Proof.SamplePleRef.lean ====
/- The per-layer embedding update of the sample: the reference's result at an index. -/
module

public import proofs.«01_k».proof.Proof.PleMath
public import proofs.«01_k».proof.Proof.Gen.SamplePleReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.SamplePleReferenceIdeal.Rowwise

open Cert.SamplePleReferenceIdeal Cert.SamplePleReferenceIdeal.Gen Cert.SamplePleReferenceIdeal.Value
open Idealize.ShloMosaic Idealize.ShloMosaic.TcCoe Idealize.SL.Sem

/-- The update over the whole arrays, row by row. -/
def updated (x y : FVec Ideal S256x1024 .f32) (p : FVec Ideal S256x256 .f32) (n : FVec Ideal S1024 .f32)
    (gate : FVec Ideal S1024x1024 .f32) (proj : FVec Ideal S256x1024 .f32) (f : FVec Ideal S1024 .f32) :
    FVec Ideal S256x1024 .f32 := fun j =>
  PleMath.out (fun k => x (ix2 (j 0) k) + y (ix2 (j 0) k)) (fun e => p (ix2 (j 0) e)) (fun k => n (ix1 k))
    (fun d q => gate (ix2 d q)) (fun e q => proj (ix2 e q)) (fun k => f (ix1 k)) (j 1)

/-- The reference's result is that update. -/
theorem result (m : (ℓ : Loc nD τ sig) → Buf (Elt Ideal) ℓ) (c : Dev nD) :
    res_main_v36 (F := Ideal) m c = updated (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := by
  funext j
  obtain ⟨r, q, rfl⟩ : ∃ (r : Fin 256) (q : Fin 1024), j = ix2 r q := ⟨j 0, j 1, eq_ix2 j⟩
  unfold res_main_v36
  clean_types
  pointwise [updated, PleMath.out, PleMath.gated, Rows.normed, Rows.rrms, Ideal.logistic]

end Cert.SamplePleReferenceIdeal.Rowwise

end
-- ==== Proof.SamplePleValue.lean ====
/- The per-layer embedding update of the sample: the block that a grid point writes, and the array after the run. -/
module

public import proofs.«01_k».proof.Proof.PleValue
public import proofs.«01_k».proof.Proof.SamplePleRef
public import proofs.«01_k».proof.Proof.Gen.SamplePleKernelIdeal.Value
public import Idealize.ShloMosaic.Lib.Pipeline.ValueKit
public import Idealize.ShloMosaic.Lib.Pointwise

@[expose] public section

set_option maxRecDepth 16384

noncomputable section

namespace Cert.SamplePleKernelIdeal.Rowwise

open Cert.SamplePleKernelIdeal Cert.SamplePleKernelIdeal.Gen Idealize.ShloMosaic Idealize.ShloMosaic.TcCoe Idealize.SL.Sem
open Idealize.ShloMosaic.Pipeline (Dat)
open Cert.SamplePleReferenceIdeal.Rowwise (updated)

/-- Where each window's block stands at grid point `t`. -/
theorem idx : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0] ∧ win0_6.index t = ![0, 0] ∧ win0_7.index t = ![t.val, 0] :=
  (by decide +kernel : ∀ t : Fin grid0.N, _)

variable (m : (ℓ : Loc nD τ sig) → Buf (Elt Ideal) ℓ)

/-- What grid point `t` stores at `y` of its block is the update at the place in the array where `y` stands. -/
theorem point (c : Dev nD) (t : Fin cfg0.N) (y : S256x1024.Idx) :
    out0_7 (iblk m c 0 t) (iblk m c 1 t) (iblk m c 2 t) (iblk m c 3 t) (iblk m c 4 t) (iblk m c 5 t) (iblk m c 6 t) y
    = updated (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (((cfg0.win 7).blk t).view.emb y) := by
  frame_out
  idx_vars y
  refine (Cert.PleKernelIdeal.Rowwise.payload_at ..).trans ?_
  unfold updated
  have hq : (((cfg0.win 7).blk t).view.emb (ix2 y0 y1)) 1 = y1 := by
    apply Fin.ext; blk_simp [idx t]
  rw [hq]
  blk_point [iblk, V, idx t]

/-- The array that the kernel leaves is the update of its arguments. -/
theorem final (c : Dev nD) :
    (dats m 0 c).arrAt 7 (cfgs 0).N
    = updated (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  exact point m c t y

end Cert.SamplePleKernelIdeal.Rowwise

end
-- ==== Proof.SamplePleClaims.lean ====
/- The per-layer embedding update of the sample: the claims. -/
module

public import proofs.«01_k».proof.Defs
public import proofs.«01_k».proof.Proof.SamplePleValue
public import proofs.«01_k».proof.Proof.Gen.SamplePleKernel.Frame
public import Idealize.ShloMosaic.Lib.Quiescent

@[expose] public section

set_option maxRecDepth 16384

noncomputable section

namespace Cert.SamplePleClaims

open Idealize.ShloMosaic Idealize.ShloMosaic.TcCoe Idealize.SL.Sem

/-- The kernel at the bits runs and keeps its arguments. -/
theorem frame_p : Cert.quiescent_SamplePleKernel := fun m ρ _ => Cert.SamplePleKernel.Gen.frame m ρ

/-- The idealized kernel runs and keeps its arguments. -/
theorem frame_pi : Cert.quiescent_SamplePleKernelIdeal := fun m ρ _ => Cert.SamplePleKernelIdeal.Gen.frame m ρ

/-- The reference runs and keeps its arguments. -/
theorem frame_ri : Cert.quiescent_SamplePleReferenceIdeal := fun m ρ _ =>
  (θ_run Cert.SamplePleReferenceIdeal.defs _ _).mono (fun r h => ⟨fun c => (h c).2, Idealize.ShloMosaic.sem_eq_zero_of_no_sems (by decide) r.2⟩)
    (Cert.SamplePleReferenceIdeal.Value.run (F := Ideal) m ρ)

/-- Idealizing rewrote nothing. -/
theorem preserves : Cert.preserves_SamplePleKernel_SamplePleKernelIdeal := trivial

/-- On extended reals the kernel's result is the reference's. -/
theorem algebraic : Cert.algebraic_SamplePleKernelIdeal_SamplePleReferenceIdeal := by
  intro m ρ m' ρ' _ hagree
  refine ⟨_, (θ_run Cert.SamplePleKernelIdeal.defs _ _).mono (fun _ h c => ⟨(h c).1.trans (Cert.SamplePleKernelIdeal.Rowwise.final m c), (h c).2⟩)
    (Cert.SamplePleKernelIdeal.Value.run_blocks (F := Ideal) m ρ), ?_⟩
  refine (θ_run Cert.SamplePleReferenceIdeal.defs _ _).mono (fun _ h c => ⟨(h c).1.trans ?_, (h c).2⟩)
    (Cert.SamplePleReferenceIdeal.Value.run (F := Ideal) m' ρ')
  obtain ⟨e0, e1, e2, e3, e4, e5, e6⟩ := hagree c
  rw [Cert.SamplePleReferenceIdeal.Rowwise.result, e0, e1, e2, e3, e4, e5, e6]

end Cert.SamplePleClaims

end
-- ==== Proof.SampleGmlpRef.lean ====
/- The spatial gating of the sample: the reference's results at an index. -/
module

public import proofs.«01_k».proof.Proof.GmlpRef
public import proofs.«01_k».proof.Proof.Gen.SampleGmlpReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.SampleGmlpReferenceIdeal.Rowwise

open Cert.SampleGmlpReferenceIdeal Cert.SampleGmlpReferenceIdeal.Gen Cert.SampleGmlpReferenceIdeal.Value
open Idealize.ShloMosaic Idealize.ShloMosaic.TcCoe Idealize.SL.Sem

/-- The normed values over the whole array. -/
def normedRows (z : FVec Ideal S256x6144 .f32) (g b : FVec Ideal S512 .f32) : FVec Ideal S256x512 .f32 := fun y =>
  let r : Fin 256 := y 0
  GmlpMath.normed (fun k => z (ix2 r ⟨512 + k.val, by omega⟩)) (fun k => g (ix1 k)) (fun k => b (ix1 k)) (y 1)

/-- The gating over the whole array: a position's channel times the bias plus the mix, over the 16 positions of its
    batch, of the channel's normed values, with the weights of the channel's group. -/
def gated (z : FVec Ideal S256x6144 .f32) (g b : FVec Ideal S512 .f32) (ws : FVec Ideal S4x128x128 .f32)
    (bs : FVec Ideal S4x128 .f32) : FVec Ideal S256x512 .f32 := fun y =>
  let r : Fin 256 := y 0
  let q : Fin 512 := y 1
  z (ix2 r ⟨q.val, by omega⟩) * ((∑ j : Fin 16,
      ws (ix3 ⟨q.val / 128, by omega⟩ ⟨r.val % 16, by omega⟩ ⟨j.val, by omega⟩)
      * normedRows z g b (ix2 ⟨r.val / 16 * 16 + j.val, by omega⟩ q))
    + bs (ix2 ⟨q.val / 128, by omega⟩ ⟨r.val % 16, by omega⟩))

/-- The reference's second result is the normed values. -/
theorem normed_result (z : FVec Ideal S256x6144 .f32) (g b : FVec Ideal S512 .f32) :
    addf (mulf (mulf (subf (extractStridedSlice S256x512 ![0, 512] z slices_S256x6144_S256x512_0_512) (broadcastInDim
      S256x512 ![0, 1] bcast_S256x1_S256x512_0_1 (Host.divf (broadcastInDim S256x1 ![0] bcast_S256_S256x1_0
      (Host.reduceAdd (extractStridedSlice S256x512 ![0, 512] z slices_S256x6144_S256x512_0_512) (constant S_ .f32
      0x00000000#32) reducesTo_S256x512_S256_d1 h_S_)) (broadcastInDim S256x1 ![] bcast_S_S256x1 (constant S_ .f32
      0x44000000#32))))) (broadcastInDim S256x512 ![0, 1] bcast_S256x1_S256x512_0_1 (Host.rsqrt (addf (Host.divf
      (broadcastInDim S256x1 ![0] bcast_S256_S256x1_0 (Host.reduceAdd (mulf (subf (extractStridedSlice S256x512 ![0,
      512] z slices_S256x6144_S256x512_0_512) (broadcastInDim S256x512 ![0, 1] bcast_S256x1_S256x512_0_1 (Host.divf
      (broadcastInDim S256x1 ![0] bcast_S256_S256x1_0 (Host.reduceAdd (extractStridedSlice S256x512 ![0, 512] z
      slices_S256x6144_S256x512_0_512) (constant S_ .f32 0x00000000#32) reducesTo_S256x512_S256_d1 h_S_))
      (broadcastInDim S256x1 ![] bcast_S_S256x1 (constant S_ .f32 0x44000000#32))))) (subf (extractStridedSlice
      S256x512 ![0, 512] z slices_S256x6144_S256x512_0_512) (broadcastInDim S256x512 ![0, 1] bcast_S256x1_S256x512_0_1
      (Host.divf (broadcastInDim S256x1 ![0] bcast_S256_S256x1_0 (Host.reduceAdd (extractStridedSlice S256x512 ![0,
      512] z slices_S256x6144_S256x512_0_512) (constant S_ .f32 0x00000000#32) reducesTo_S256x512_S256_d1 h_S_))
      (broadcastInDim S256x1 ![] bcast_S_S256x1 (constant S_ .f32 0x44000000#32)))))) (constant S_ .f32 0x00000000#32)
      reducesTo_S256x512_S256_d1 h_S_)) (broadcastInDim S256x1 ![] bcast_S_S256x1 (constant S_ .f32 0x44000000#32)))
      (broadcastInDim S256x1 ![] bcast_S_S256x1 (constant S_ .f32 0x358637BD#32)))))) (broadcastInDim S256x512 ![0, 1]
      bcast_S1x512_S256x512_0_1 (broadcastInDim S1x512 ![1] bcast_S512_S1x512_1 g))) (broadcastInDim S256x512 ![0, 1]
      bcast_S1x512_S256x512_0_1 (broadcastInDim S1x512 ![1] bcast_S512_S1x512_1 b))
    = normedRows z g b := by
  funext y
  obtain ⟨r, q, rfl⟩ : ∃ (r : Fin 256) (q : Fin 512), y = ix2 r q := ⟨y 0, y 1, eq_ix2 y⟩
  pointwise [normedRows, GmlpMath.normed, GmlpMath.centered, GmlpMath.mean]

/-- The mix from the normed values and the masked weights. -/
theorem mix_at (u : FVec Ideal S256x512 .f32) (v : FVec Ideal S256x512 .f32) (w : FVec Ideal S4x16x16 .f32)
    (bs : FVec Ideal S4x128 .f32) (r : Fin 256) (q : Fin 512) :
    mulf u (shapeCast S256x512 (addf (transpose S16x16x4x128 [1, 3, 0, 2]
        (Host.dotGeneral dot_S16x16x4x128_S4x16x16_S4x16x128x16_1_2_03_1_2_0 none
          (shapeCast S16x16x4x128 v shapeCasts_S256x512_S16x16x4x128) w)
        transposes_S4x16x128x16_S16x16x4x128_1_3_0_2)
      (broadcastInDim S16x16x4x128 ![0, 1, 2, 3] bcast_S1x16x4x1_S16x16x4x128_0_1_2_3
        (broadcastInDim S1x16x4x1 ![1, 2] bcast_S16x4_S1x16x4x1_1_2
          (transpose S16x4 [1, 0] (extractStridedSlice S4x16 ![0, 0] bs slices_S4x128_S4x16_0_0)
            transposes_S4x16_S16x4_1_0)))) shapeCasts_S16x16x4x128_S256x512) (ix2 r q)
      = u (ix2 r q) * ((∑ j : Fin 16, v (ix2 ⟨r.val / 16 * 16 + j.val, by omega⟩ q)
          * w (ix3 ⟨q.val / 128, by omega⟩ ⟨r.val % 16, by omega⟩ j))
        + bs (ix2 ⟨q.val / 128, by omega⟩ ⟨r.val % 16, by omega⟩)) := by
  pointwise

/-- The reference's first result is that gating. -/
theorem result (m : (ℓ : Loc nD τ sig) → Buf (Elt Ideal) ℓ) (c : Dev nD) :
    res_main_v44 (F := Ideal) m c = gated (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) := by
  funext y
  obtain ⟨r, q, rfl⟩ : ∃ (r : Fin 256) (q : Fin 512), y = ix2 r q := ⟨y 0, y 1, eq_ix2 y⟩
  unfold res_main_v44
  clean_types
  refine (mix_at ..).trans ?_
  simp only [gated]
  refine congrArg₂ (· * ·) ?_ (congrArg₂ (· + ·) (Finset.sum_congr rfl fun j _ => (mul_comm _ _).trans
    (congrArg₂ (· * ·) ?_ ?_)) rfl)
  · pointwise
  · rw [Cert.GmlpReferenceIdeal.Rowwise.sign_at]
    pointwise [id]
    have ci := GmlpMath.readsWord_eq ⟨r.val % 16, by omega⟩ ⟨j.val, by omega⟩
    unfold AttnWords.chunkWord at ci
    simp only [ci]
    rw [GmlpMath.select_ite, if_pos]
    show j.val / 64 ≤ r.val % 16 / 64
    omega
  · pointwise [normedRows, GmlpMath.normed, GmlpMath.centered, GmlpMath.mean]

end Cert.SampleGmlpReferenceIdeal.Rowwise

end
-- ==== Proof.SampleGmlpValue.lean ====
/- The spatial gating of the sample: the blocks that a grid point writes, and the arrays after the run. -/
module

public import proofs.«01_k».proof.Proof.GmlpValue
public import proofs.«01_k».proof.Proof.SampleGmlpRef
public import proofs.«01_k».proof.Proof.Gen.SampleGmlpKernelIdeal.Value
public import Idealize.ShloMosaic.Lib.Pipeline.ValueKit
public import Idealize.ShloMosaic.Lib.Pointwise
public import Idealize.ShloMosaic.Lib.Tactic.CleanTypes

@[expose] public section

set_option maxRecDepth 16384

noncomputable section

namespace Cert.SampleGmlpKernelIdeal.Rowwise

open Cert.SampleGmlpKernelIdeal Cert.SampleGmlpKernelIdeal.Gen Idealize.ShloMosaic Idealize.ShloMosaic.TcCoe Idealize.SL.Sem
open Idealize.ShloMosaic.Pipeline (Dat)
open Cert.SampleGmlpReferenceIdeal.Rowwise (gated normedRows)
open Cert.AttnKernelIdeal.Rowwise (ite_same)

/-- Where each window's block stands at grid point `t`. -/
theorem idx : ∀ t : Fin cfg0.N, win0_0.index t = ![t.val, 0] ∧ win0_1.index t = ![t.val, 1]
    ∧ win0_2.index t = ![0, 0] ∧ win0_3.index t = ![0, 0] ∧ win0_4.index t = ![0, 0, 0]
    ∧ win0_5.index t = ![0, 0] ∧ win0_6.index t = ![t.val, 0] ∧ win0_7.index t = ![t.val, 0] :=
  (by decide +kernel : ∀ t : Fin grid0.N, _)

/-- A block's store at row `i` and column `q` is the prompt's, from the same rows, weights and bias. -/
theorem block_at (u v : FVec Ideal S128x512 .f32) (g b : FVec Ideal S1x512 .f32) (w : FVec Ideal S4x128x128 .bf16)
    (bias : FVec Ideal S128x512 .f32) (i : Fin 128) (q : Fin 512) :
    out0_6 (F := Ideal) u v g b w bias (ix2 i q)
    = u (ix2 i q) * ((∑ j : Fin 128, w (ix3 ⟨q.val / 128, by omega⟩ i j)
        * GmlpMath.normed (fun k => v (ix2 j k)) (fun k => g (ix2 0 k)) (fun k => b (ix2 0 k)) q) + bias (ix2 i q)) :=
  Cert.GmlpKernelIdeal.Rowwise.block_at u v g b w bias i q

/-- The normed values of a block are the prompt's, from the same rows. -/
theorem normed_at (v : FVec Ideal S128x512 .f32) (g b : FVec Ideal S1x512 .f32) (j : Fin 128) (q : Fin 512) :
    k0_pay2 (F := Ideal) v g b (ix2 j q)
      = GmlpMath.normed (fun k => v (ix2 j k)) (fun k => g (ix2 0 k)) (fun k => b (ix2 0 k)) q :=
  Cert.GmlpKernelIdeal.Rowwise.normed_at v g b j q

variable (m : (ℓ : Loc nD τ sig) → Buf (Elt Ideal) ℓ)

/-- The weights that the program prepares: a batch's 16 by 16 weights along the diagonal, zero elsewhere. -/
theorem weights_at (c : Dev nD) (a : Fin 4) (i j : Fin 128) :
    (show FVec Ideal S4x128x128 .bf16 from V m c main_v41) (ix3 a i j)
    = if i.val / 16 = j.val / 16 then
        (show FVec Ideal S4x128x128 .f32 from m ((c : Thread nD τ).loc main_arg3))
          (ix3 a ⟨i.val % 16, by omega⟩ ⟨j.val % 16, by omega⟩) else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  pointwise
  after_results_simp
  simp -implicitDefEqProofs only [StableHlo.TRef.toBuf, StableHlo.TRef.ofBuf, cast_cast, cast_eq]
  clean_types
  pointwise
  have e : ∀ b : Fin 4, b.val = a.val →
      FloatOps.uitofp (F := Ideal) .f32
        (IntOp.cmpi .eq (IntOp.addi (BitVec.ofNat 32 (i.val / 16)) 0#32) (BitVec.ofNat 32 (j.val / 16)))
        * (show FVec Ideal S4x128x128 .f32 from m ((c : Thread nD τ).loc main_arg3))
          (ix3 b ⟨i.val % 16, by omega⟩ ⟨j.val % 16, by omega⟩)
      = if i.val / 16 = j.val / 16 then
          (show FVec Ideal S4x128x128 .f32 from m ((c : Thread nD τ).loc main_arg3))
            (ix3 a ⟨i.val % 16, by omega⟩ ⟨j.val % 16, by omega⟩) else 0 := by
    intro b hb
    obtain rfl : b = a := Fin.ext hb
    exact GmlpMath.eye_mul ⟨i.val / 16, by omega⟩ ⟨j.val / 16, by omega⟩ _
  refine ite_same (fun h0 => e 0 (show 0 = a.val by omega)) fun h0 => ?_
  refine ite_same (fun h1 => e 1 (show 1 = a.val by omega)) fun h1 => ?_
  refine ite_same (fun h2 => e 2 (show 2 = a.val by omega)) fun h2 => ?_
  exact e 3 (show 3 = a.val by omega)

/-- The bias and the layer norm's scale and shift that the program prepares. -/
theorem rows_at (c : Dev nD) (i : Fin 128) (q : Fin 512) :
    (show FVec Ideal S128x512 .f32 from V m c main_v48) (ix2 i q)
      = (show FVec Ideal S4x128 .f32 from m ((c : Thread nD τ).loc main_arg4))
        (ix2 ⟨q.val / 128, by omega⟩ ⟨i.val % 16, by omega⟩)
    ∧ (show FVec Ideal S1x512 .f32 from V m c main_v49) (ix2 0 q)
      = (show FVec Ideal S512 .f32 from m ((c : Thread nD τ).loc main_arg1)) (ix1 q)
    ∧ (show FVec Ideal S1x512 .f32 from V m c main_v50) (ix2 0 q)
      = (show FVec Ideal S512 .f32 from m ((c : Thread nD τ).loc main_arg2)) (ix1 q) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  refine ⟨?_, ?_, ?_⟩
  · clean_types
    pointwise
  · clean_types
    pointwise
  · clean_types
    pointwise

/-- The block of the layer norm's scale, and that of its shift. -/
theorem scale_at (c : Dev nD) (t : Fin cfg0.N) (k : Fin 512) :
    iblk m c 2 t (ix2 0 k) = (show FVec Ideal S512 .f32 from m ((c : Thread nD τ).loc main_arg1)) (ix1 k)
    ∧ iblk m c 3 t (ix2 0 k) = (show FVec Ideal S512 .f32 from m ((c : Thread nD τ).loc main_arg2)) (ix1 k) := by
  constructor
  · refine Eq.trans (b := (show FVec Ideal S1x512 .f32 from V m c main_v49) (ix2 0 k)) ?_ (rows_at m c 0 k).2.1
    blk_point [iblk, idx t]
  · refine Eq.trans (b := (show FVec Ideal S1x512 .f32 from V m c main_v50) (ix2 0 k)) ?_ (rows_at m c 0 k).2.2
    blk_point [iblk, idx t]

/-- The normed values of grid point `t`'s block, at row `j`: those of row `128 t + j` of the array. -/
theorem norm_at (c : Dev nD) (t : Fin cfg0.N) (j : Fin 128) (q : Fin 512) (n : Fin 256) (hn : n.val = t.val * 128 + j.val) :
    GmlpMath.normed (fun k => iblk m c 1 t (ix2 j k)) (fun k => iblk m c 2 t (ix2 0 k))
      (fun k => iblk m c 3 t (ix2 0 k)) q
    = normedRows (m ((c : Thread nD τ).loc main_arg0)) (m ((c : Thread nD τ).loc main_arg1))
        (m ((c : Thread nD τ).loc main_arg2)) (ix2 n q) := by
  have hv : ∀ k : Fin 512, iblk m c 1 t (ix2 j k)
      = (show FVec Ideal S256x6144 .f32 from m ((c : Thread nD τ).loc main_arg0)) (ix2 n ⟨512 + k.val, by omega⟩) := by
    intro k
    blk_point [iblk, V, idx t]
  simp only [hv, fun k => (scale_at m c t k).1, fun k => (scale_at m c t k).2]
  rfl

/-- What grid point `t` stores at `y` of its first block is the gating at the place in the array where `y` stands. -/
theorem point (c : Dev nD) (t : Fin cfg0.N) (y : S128x512.Idx) :
    out0_6 (iblk m c 0 t) (iblk m c 1 t) (iblk m c 2 t) (iblk m c 3 t) (iblk m c 4 t) (iblk m c 5 t) y
    = gated (m ((c : Thread nD τ).loc main_arg0)) (m ((c : Thread nD τ).loc main_arg1))
        (m ((c : Thread nD τ).loc main_arg2)) (m ((c : Thread nD τ).loc main_arg3))
        (m ((c : Thread nD τ).loc main_arg4)) (((cfg0.win 6).blk t).view.emb y) := by
  idx_vars y
  refine (block_at ..).trans ?_
  have hw : ∀ (a : Fin 4) (i j : Fin 128), iblk m c 4 t (ix3 a i j)
      = (show FVec Ideal S4x128x128 .bf16 from V m c main_v41) (ix3 a i j) := by
    intro a i j
    blk_point [iblk, idx t]
  have hb : iblk m c 5 t (ix2 y0 y1) = (show FVec Ideal S128x512 .f32 from V m c main_v48) (ix2 y0 y1) := by
    blk_point [iblk, idx t]
  have hq : (((cfg0.win 6).blk t).view.emb (ix2 y0 y1)) 1 = y1 := by
    apply Fin.ext; blk_simp [idx t]
  have hr : ((((cfg0.win 6).blk t).view.emb (ix2 y0 y1)) 0).val = t.val * 128 + y0.val := by
    blk_simp [idx t]
  have hlt : ((((cfg0.win 6).blk t).view.emb (ix2 y0 y1)) 0).val < 256 := Fin.isLt (n := 256) _
  have hi : (⟨((((cfg0.win 6).blk t).view.emb (ix2 y0 y1)) 0).val % 16, by omega⟩ : Fin 16) = ⟨y0.val % 16, by omega⟩ := by
    apply Fin.ext; show _ % 16 = _ % 16; omega
  have hm : ((((cfg0.win 6).blk t).view.emb (ix2 y0 y1)) 0).val % 16 = y0.val % 16 := congrArg Fin.val hi
  unfold gated
  simp only [hq, hm]
  refine congrArg₂ (· * ·) ?_ (congrArg₂ (· + ·) ?_ ?_)
  · blk_point [iblk, V, idx t]
  · refine Eq.trans (Finset.sum_congr rfl fun j _ => ?_) ((GmlpMath.sum_run (fun j =>
      (show FVec Ideal S4x128x128 .f32 from m ((c : Thread nD τ).loc main_arg3))
          (ix3 ⟨y1.val / 128, by omega⟩ ⟨y0.val % 16, by omega⟩ ⟨j.val % 16, by omega⟩)
        * GmlpMath.normed (fun k => iblk m c 1 t (ix2 j k)) (fun k => iblk m c 2 t (ix2 0 k))
            (fun k => iblk m c 3 t (ix2 0 k)) y1) ⟨y0.val / 16, by omega⟩).trans
      (Finset.sum_congr rfl fun j _ => congrArg₂ (· * ·) ?_ ?_))
    · rw [(hw _ _ _).trans (weights_at m c _ _ _)]
      by_cases h : y0.val / 16 = j.val / 16
      · rw [if_pos h, if_pos h]
      · rw [if_neg h, if_neg h, zero_mul]
    · refine congrArg (fun l => (show FVec Ideal S4x128x128 .f32 from m ((c : Thread nD τ).loc main_arg3))
          (ix3 ⟨y1.val / 128, by omega⟩ ⟨y0.val % 16, by omega⟩ l)) (Fin.ext ?_)
      show (y0.val / 16 * 16 + j.val) % 16 = j.val
      omega
    · refine norm_at m c t _ y1 _ ?_
      refine (congrArg (fun n : ℕ => n / 16 * 16 + j.val) hr).trans ?_
      show (t.val * 128 + y0.val) / 16 * 16 + j.val = t.val * 128 + (y0.val / 16 * 16 + j.val)
      omega
  · exact hb.trans (rows_at m c _ _).1

/-- What grid point `t` stores at `y` of its second block is the normed value at the place in the array where `y`
    stands. -/
theorem normed_point (c : Dev nD) (t : Fin cfg0.N) (y : S128x512.Idx) :
    out0_7 (iblk m c 0 t) (iblk m c 1 t) (iblk m c 2 t) (iblk m c 3 t) (iblk m c 4 t) (iblk m c 5 t) y
    = normedRows (m ((c : Thread nD τ).loc main_arg0)) (m ((c : Thread nD τ).loc main_arg1))
        (m ((c : Thread nD τ).loc main_arg2)) (((cfg0.win 7).blk t).view.emb y) := by
  frame_out
  idx_vars y
  have hq : (((cfg0.win 7).blk t).view.emb (ix2 y0 y1)) 1 = y1 := by
    apply Fin.ext; blk_simp [idx t]
  have hr : ((((cfg0.win 7).blk t).view.emb (ix2 y0 y1)) 0).val = t.val * 128 + y0.val := by
    blk_simp [idx t]
  refine (normed_at ..).trans ((norm_at m c t y0 y1 _ hr).trans ?_)
  unfold normedRows
  simp only [hq]
  rfl

/-- The first array that the kernel leaves is the gating of its arguments. -/
theorem final (c : Dev nD) :
    (dats m 0 c).arrAt 6 (cfgs 0).N
    = gated (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 6 _ (by decide +kernel) fun t _ y => ?_
  blk_simp
  rw [after0_6]
  exact point m c t y

/-- The second array that the kernel leaves holds the normed values. -/
theorem normed_final (c : Dev nD) :
    (dats m 0 c).arrAt 7 (cfgs 0).N
    = normedRows (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]
  exact normed_point m c t y

end Cert.SampleGmlpKernelIdeal.Rowwise

end
-- ==== Proof.SampleGmlpClaims.lean ====
/- The spatial gating of the sample: the claims. -/
module

public import proofs.«01_k».proof.Defs
public import proofs.«01_k».proof.Proof.SampleGmlpValue
public import proofs.«01_k».proof.Proof.Gen.SampleGmlpKernel.Frame
public import Idealize.ShloMosaic.Lib.Quiescent

@[expose] public section

set_option maxRecDepth 16384

noncomputable section

namespace Cert.SampleGmlpClaims

open Idealize.ShloMosaic Idealize.ShloMosaic.TcCoe Idealize.SL.Sem

/-- The kernel at the bits runs and keeps its arguments. -/
theorem frame_p : Cert.quiescent_SampleGmlpKernel := fun m ρ _ => Cert.SampleGmlpKernel.Gen.frame m ρ

/-- The idealized kernel runs and keeps its arguments. -/
theorem frame_pi : Cert.quiescent_SampleGmlpKernelIdeal := fun m ρ _ => Cert.SampleGmlpKernelIdeal.Gen.frame m ρ

/-- The reference runs and keeps its arguments. -/
theorem frame_ri : Cert.quiescent_SampleGmlpReferenceIdeal := fun m ρ _ =>
  (θ_run Cert.SampleGmlpReferenceIdeal.defs _ _).mono (fun r h => ⟨fun c => (h c).2.2, Idealize.ShloMosaic.sem_eq_zero_of_no_sems (by decide) r.2⟩)
    (Cert.SampleGmlpReferenceIdeal.Value.run (F := Ideal) m ρ)

/-- Idealizing rewrote nothing. -/
theorem preserves : Cert.preserves_SampleGmlpKernel_SampleGmlpKernelIdeal := trivial

/-- On extended reals the kernel's two results are the reference's. -/
theorem algebraic : Cert.algebraic_SampleGmlpKernelIdeal_SampleGmlpReferenceIdeal := by
  intro m ρ m' ρ' _ hagree
  refine ⟨_, _, (θ_run Cert.SampleGmlpKernelIdeal.defs _ _).mono
    (fun _ h c => ⟨(h c).1.trans (Cert.SampleGmlpKernelIdeal.Rowwise.final m c),
      (h c).2.1.trans (Cert.SampleGmlpKernelIdeal.Rowwise.normed_final m c), (h c).2.2⟩)
    (Cert.SampleGmlpKernelIdeal.Value.run_blocks (F := Ideal) m ρ), ?_⟩
  refine (θ_run Cert.SampleGmlpReferenceIdeal.defs _ _).mono
    (fun _ h c => ⟨(h c).1.trans ?_, (h c).2.1.trans ?_, (h c).2.2⟩)
    (Cert.SampleGmlpReferenceIdeal.Value.run (F := Ideal) m' ρ')
  · obtain ⟨e0, e1, e2, e3, e4⟩ := hagree c
    rw [Cert.SampleGmlpReferenceIdeal.Rowwise.result, e0, e1, e2, e3, e4]
  · obtain ⟨e0, e1, e2, e3, e4⟩ := hagree c
    refine (Cert.SampleGmlpReferenceIdeal.Rowwise.normed_result _ _ _).trans ?_
    rw [e0, e1, e2]

end Cert.SampleGmlpClaims

end
-- ==== Proof.lean ====
module

public import proofs.«01_k».proof.Defs
public import proofs.«01_k».proof.Proof.AttnClaims
public import proofs.«01_k».proof.Proof.InprojClaims
public import proofs.«01_k».proof.Proof.MergeClaims
public import proofs.«01_k».proof.Proof.PleClaims
public import proofs.«01_k».proof.Proof.GmlpClaims
public import proofs.«01_k».proof.Proof.SampleInprojClaims
public import proofs.«01_k».proof.Proof.SamplePleClaims
public import proofs.«01_k».proof.Proof.SampleGmlpClaims

@[expose] public section

noncomputable section

namespace Cert.Proof

/-- All the claims. -/
theorem claim : Cert.Claim :=
  ⟨Cert.AttnKernel.Gen.facts, Cert.AttnKernelIdeal.Gen.facts, Cert.AttnReferenceIdeal.Gen.facts,
    Cert.InprojKernel.Gen.facts, Cert.InprojKernelIdeal.Gen.facts, Cert.InprojReferenceIdeal.Gen.facts,
    Cert.MergeKernel.Gen.facts, Cert.MergeKernelIdeal.Gen.facts, Cert.MergeReferenceIdeal.Gen.facts,
    Cert.PleKernel.Gen.facts, Cert.PleKernelIdeal.Gen.facts, Cert.PleReferenceIdeal.Gen.facts,
    Cert.GmlpKernel.Gen.facts, Cert.GmlpKernelIdeal.Gen.facts, Cert.GmlpReferenceIdeal.Gen.facts,
    Cert.SampleInprojKernel.Gen.facts, Cert.SampleInprojKernelIdeal.Gen.facts, Cert.SampleInprojReferenceIdeal.Gen.facts,
    Cert.SamplePleKernel.Gen.facts, Cert.SamplePleKernelIdeal.Gen.facts, Cert.SamplePleReferenceIdeal.Gen.facts,
    Cert.SampleGmlpKernel.Gen.facts, Cert.SampleGmlpKernelIdeal.Gen.facts, Cert.SampleGmlpReferenceIdeal.Gen.facts,
    AttnClaims.finiteFacts,
    AttnClaims.frame_p, AttnClaims.frame_pi, AttnClaims.frame_pi_pre, AttnClaims.frame_ri, AttnClaims.frame_ri_pre,
    InprojClaims.frame_p, InprojClaims.frame_pi, InprojClaims.frame_ri,
    MergeClaims.frame_p, MergeClaims.frame_pi, MergeClaims.frame_ri,
    PleClaims.frame_p, PleClaims.frame_pi, PleClaims.frame_ri,
    GmlpClaims.frame_p, GmlpClaims.frame_pi, GmlpClaims.frame_ri,
    SampleInprojClaims.frame_p, SampleInprojClaims.frame_pi, SampleInprojClaims.frame_ri,
    SamplePleClaims.frame_p, SamplePleClaims.frame_pi, SamplePleClaims.frame_ri,
    SampleGmlpClaims.frame_p, SampleGmlpClaims.frame_pi, SampleGmlpClaims.frame_ri,
    AttnClaims.preserves, AttnClaims.algebraic,
    InprojClaims.preserves, InprojClaims.algebraic,
    MergeClaims.preserves, MergeClaims.algebraic,
    PleClaims.preserves, PleClaims.algebraic,
    GmlpClaims.preserves, GmlpClaims.algebraic,
    SampleInprojClaims.preserves, SampleInprojClaims.algebraic,
    SamplePleClaims.preserves, SamplePleClaims.algebraic,
    SampleGmlpClaims.preserves, SampleGmlpClaims.algebraic⟩

end Cert.Proof

end
